-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S4x128x768 : Shape := ⟨3, ![4, 128, 768]⟩
abbrev S6x128x768 : Shape := ⟨3, ![6, 128, 768]⟩
abbrev S6 : Shape := ⟨1, ![6]⟩
abbrev S_ : Shape := ⟨0, ![]⟩
abbrev S768x512 : Shape := ⟨2, ![768, 512]⟩
abbrev S512x768 : Shape := ⟨2, ![512, 768]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S1x512x1x64 : Shape := ⟨4, ![1, 512, 1, 64]⟩
abbrev S512x64 : Shape := ⟨2, ![512, 64]⟩
abbrev S256 : Shape := ⟨1, ![256]⟩
abbrev S256x1 : Shape := ⟨2, ![256, 1]⟩
abbrev S128x768 : Shape := ⟨2, ![128, 768]⟩
abbrev S1x128x768 : Shape := ⟨3, ![1, 128, 768]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x2048, .f32⟩
  | .hbm, ⟨2, _⟩ => ⟨S2x512x8x64, .f32⟩
  | .hbm, ⟨3, _⟩ => ⟨S2x512x8x64, .f32⟩
  | .hbm, ⟨4, _⟩ => ⟨S2048x768, .f32⟩
  | .hbm, ⟨5, _⟩ => ⟨S2x512x768, .f32⟩
  | .local _ .vmem, ⟨0, _⟩ => ⟨S2x512x768, .f32⟩
  | .local _ .vmem, ⟨1, _⟩ => ⟨S768x2048, .f32⟩
  | .local _ .vmem, ⟨2, _⟩ => ⟨S2x512x8x64, .f32⟩
  | .local _ .vmem, ⟨3, _⟩ => ⟨S2x512x8x64, .f32⟩
  | .local _ .vmem, ⟨4, _⟩ => ⟨S2048x768, .f32⟩
  | .local _ .vmem, ⟨5, _⟩ => ⟨S2x512x768, .f32⟩
  | .local _ .vmem, ⟨6, _⟩ => ⟨S4x128x768, .bf16⟩
  | .local _ .vmem, ⟨7, _⟩ => ⟨S4x128x768, .bf16⟩
  | .local _ .vmem, ⟨8, _⟩ => ⟨S6x128x768, .bf16⟩
  | .local _ .vmem, ⟨9, _⟩ => ⟨S6x128x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v13 : BitVec 32 := Scalar.muli v2 c512_i32
  let v14 : Index := Scalar.indexCast v13
  ![0, v14.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_10 : BitVec 32 := 512#32
  let v17 : BitVec 32 := Scalar.muli v2 c512_i32_10
  let v18 : Index := Scalar.indexCast v17
  let c0_11 : Index := 0#32
  ![v18.toNat, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v24 : Index := Scalar.indexCast v21
  let c2_i32_13 : BitVec 32 := 2#32
  let v22 : BitVec 32 := Scalar.remsi v2 c2_i32_13
  let c256_i32 : BitVec 32 := 256#32
  let v23 : BitVec 32 := Scalar.muli v22 c256_i32
  let v25 : Index := Scalar.indexCast v23
  let c0_14 : Index := 0#32
  ![v24.toNat, v25.toNat, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v83 : Index := Scalar.indexCast v21
  let c0_28 : Index := 0#32
  let c0_29 : Index := 0#32
  let c0_30 : Index := 0#32
  ![v83.toNat, 0, 0, 0]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v105 : Index := Scalar.indexCast v21
  let c0_40 : Index := 0#32
  let c1 : Index := 1#32
  let c0_41 : Index := 0#32
  ![v105.toNat, 0, 1, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v127 : Index := Scalar.indexCast v21
  let c0_51 : Index := 0#32
  let c2 : Index := 2#32
  let c0_52 : Index := 0#32
  ![v127.toNat, 0, 2, 0]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v149 : Index := Scalar.indexCast v21
  let c0_62 : Index := 0#32
  let c3 : Index := 3#32
  let c0_63 : Index := 0#32
  ![v149.toNat, 0, 3, 0]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v171 : Index := Scalar.indexCast v21
  let c0_73 : Index := 0#32
  let c4 : Index := 4#32
  let c0_74 : Index := 0#32
  ![v171.toNat, 0, 4, 0]
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v193 : Index := Scalar.indexCast v21
  let c0_84 : Index := 0#32
  let c5 : Index := 5#32
  let c0_85 : Index := 0#32
  ![v193.toNat, 0, 5, 0]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v215 : Index := Scalar.indexCast v21
  let c0_95 : Index := 0#32
  let c6 : Index := 6#32
  let c0_96 : Index := 0#32
  ![v215.toNat, 0, 6, 0]
def k0_off11 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_12 : BitVec 32 := 2#32
  let v21 : BitVec 32 := Scalar.divsi v2 c2_i32_12
  let v237 : Index := Scalar.indexCast v21
  let c0_106 : Index := 0#32
  let c7 : Index := 7#32
  let c0_107 : Index := 0#32
  ![v237.toNat, 0, 7, 0]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v262 : Index := Scalar.indexCast v2
  let c0_118 : Index := 0#32
  let c0_119 : Index := 0#32
  ![v262.toNat, 0, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_129 : BitVec 32 := 0#32
  let c0_i32_130 : BitVec 32 := 0#32
  ![v2.toNat, 0, 0]
def k0_dev3 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_125 : BitVec 32 := 1#32
  let v271 : BitVec 32 := Scalar.muli v7 c1_i32_125
  let v272 : BitVec 32 := Scalar.addi c0_i32_126 v271
  v272.toNat
def k0_dev4 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_134 : BitVec 32 := 1#32
  let v281 : BitVec 32 := Scalar.muli v5 c1_i32_134
  let v282 : BitVec 32 := Scalar.addi c0_i32_135 v281
  v282.toNat
def k0_off14 (d0 : Dev nD) (c1_i32_140 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v296 : Index := Scalar.indexCast v293
  let c2_i32_143 : BitVec 32 := 2#32
  let v294 : BitVec 32 := Scalar.remsi v292 c2_i32_143
  let c256_i32_144 : BitVec 32 := 256#32
  let v295 : BitVec 32 := Scalar.muli v294 c256_i32_144
  let v297 : Index := Scalar.indexCast v295
  let c0_145 : Index := 0#32
  ![v296.toNat, v297.toNat, 0]
def k0_off15 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v355 : Index := Scalar.indexCast v293
  let c0_161 : Index := 0#32
  let c0_162 : Index := 0#32
  let c0_163 : Index := 0#32
  ![v355.toNat, 0, 0, 0]
def k0_off16 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v377 : Index := Scalar.indexCast v293
  let c0_173 : Index := 0#32
  let c1_174 : Index := 1#32
  let c0_175 : Index := 0#32
  ![v377.toNat, 0, 1, 0]
def k0_off17 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v399 : Index := Scalar.indexCast v293
  let c0_185 : Index := 0#32
  let c2_186 : Index := 2#32
  let c0_187 : Index := 0#32
  ![v399.toNat, 0, 2, 0]
def k0_off18 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v421 : Index := Scalar.indexCast v293
  let c0_197 : Index := 0#32
  let c3_198 : Index := 3#32
  let c0_199 : Index := 0#32
  ![v421.toNat, 0, 3, 0]
def k0_off19 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v443 : Index := Scalar.indexCast v293
  let c0_209 : Index := 0#32
  let c4_210 : Index := 4#32
  let c0_211 : Index := 0#32
  ![v443.toNat, 0, 4, 0]
def k0_off20 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v465 : Index := Scalar.indexCast v293
  let c0_221 : Index := 0#32
  let c5_222 : Index := 5#32
  let c0_223 : Index := 0#32
  ![v465.toNat, 0, 5, 0]
def k0_off21 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v487 : Index := Scalar.indexCast v293
  let c0_233 : Index := 0#32
  let c6_234 : Index := 6#32
  let c0_235 : Index := 0#32
  ![v487.toNat, 0, 6, 0]
def k0_off22 (d0 : Dev nD) (c1_i32_140 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let c2_i32_142 : BitVec 32 := 2#32
  let v293 : BitVec 32 := Scalar.divsi v292 c2_i32_142
  let v509 : Index := Scalar.indexCast v293
  let c0_245 : Index := 0#32
  let c7_246 : Index := 7#32
  let c0_247 : Index := 0#32
  ![v509.toNat, 0, 7, 0]
def k0_off23 (d0 : Dev nD) (c1_i32_140 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c1_i32_140
  let c4_i32_141 : BitVec 32 := 4#32
  let v292 : BitVec 32 := Scalar.remsi v291 c4_i32_141
  let v534 : Index := Scalar.indexCast v292
  let c0_258 : Index := 0#32
  let c0_259 : Index := 0#32
  ![v534.toNat, 0, 0]
def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v549 : Index := Scalar.indexCast v546
  let c2_i32_266 : BitVec 32 := 2#32
  let v547 : BitVec 32 := Scalar.remsi v545 c2_i32_266
  let c256_i32_267 : BitVec 32 := 256#32
  let v548 : BitVec 32 := Scalar.muli v547 c256_i32_267
  let v550 : Index := Scalar.indexCast v548
  let c0_268 : Index := 0#32
  ![v549.toNat, v550.toNat, 0]
def k0_off25 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v608 : Index := Scalar.indexCast v546
  let c0_284 : Index := 0#32
  let c0_285 : Index := 0#32
  let c0_286 : Index := 0#32
  ![v608.toNat, 0, 0, 0]
def k0_off26 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v630 : Index := Scalar.indexCast v546
  let c0_296 : Index := 0#32
  let c1_297 : Index := 1#32
  let c0_298 : Index := 0#32
  ![v630.toNat, 0, 1, 0]
def k0_off27 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v652 : Index := Scalar.indexCast v546
  let c0_308 : Index := 0#32
  let c2_309 : Index := 2#32
  let c0_310 : Index := 0#32
  ![v652.toNat, 0, 2, 0]
def k0_off28 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v674 : Index := Scalar.indexCast v546
  let c0_320 : Index := 0#32
  let c3_321 : Index := 3#32
  let c0_322 : Index := 0#32
  ![v674.toNat, 0, 3, 0]
def k0_off29 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v696 : Index := Scalar.indexCast v546
  let c0_332 : Index := 0#32
  let c4_333 : Index := 4#32
  let c0_334 : Index := 0#32
  ![v696.toNat, 0, 4, 0]
def k0_off30 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v718 : Index := Scalar.indexCast v546
  let c0_344 : Index := 0#32
  let c5_345 : Index := 5#32
  let c0_346 : Index := 0#32
  ![v718.toNat, 0, 5, 0]
def k0_off31 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v740 : Index := Scalar.indexCast v546
  let c0_356 : Index := 0#32
  let c6_357 : Index := 6#32
  let c0_358 : Index := 0#32
  ![v740.toNat, 0, 6, 0]
def k0_off32 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let c1_i32_263 : BitVec 32 := 1#32
  let v544 : BitVec 32 := Scalar.subi v543 c1_i32_263
  let c4_i32_264 : BitVec 32 := 4#32
  let v545 : BitVec 32 := Scalar.remsi v544 c4_i32_264
  let c2_i32_265 : BitVec 32 := 2#32
  let v546 : BitVec 32 := Scalar.divsi v545 c2_i32_265
  let v762 : Index := Scalar.indexCast v546
  let c0_368 : Index := 0#32
  let c7_369 : Index := 7#32
  let c0_370 : Index := 0#32
  ![v762.toNat, 0, 7, 0]
def k0_off33 (d0 : Dev nD) (c1_i32_263 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_262 : BitVec 32 := 4#32
  let v543 : BitVec 32 := Scalar.addi v2 c4_i32_262
  let v544 : BitVec 32 := Scalar.subi v543 c1_i32_263
  let c4_i32_264 : BitVec 32 := 4#32
  let v545 : BitVec 32 := Scalar.remsi v544 c4_i32_264
  let v787 : Index := Scalar.indexCast v545
  let c0_381 : Index := 0#32
  let c0_382 : Index := 0#32
  ![v787.toNat, 0, 0]
def k0_off34 (d0 : Dev nD) (c1_i32_395 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_394 : BitVec 32 := 4#32
  let v804 : BitVec 32 := Scalar.addi v2 c4_i32_394
  let v805 : BitVec 32 := Scalar.subi v804 c1_i32_395
  let c4_i32_396 : BitVec 32 := 4#32
  let v806 : BitVec 32 := Scalar.remsi v805 c4_i32_396
  let c0_i32_429 : BitVec 32 := 0#32
  let c0_i32_430 : BitVec 32 := 0#32
  ![v806.toNat, 0, 0]
def k0_dev5 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_425 : BitVec 32 := 1#32
  let v837 : BitVec 32 := Scalar.muli v7 c1_i32_425
  let v838 : BitVec 32 := Scalar.addi c0_i32_426 v837
  v838.toNat
def k0_off35 (d0 : Dev nD) (c1_i32_413 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v825 : BitVec 32 := Scalar.addi v2 c1_i32_413
  let c4_i32_414 : BitVec 32 := 4#32
  let v826 : BitVec 32 := Scalar.remsi v825 c4_i32_414
  let c0_i32_438 : BitVec 32 := 0#32
  let c0_i32_439 : BitVec 32 := 0#32
  ![v826.toNat, 0, 0]
def k0_dev6 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_434 : BitVec 32 := 1#32
  let v847 : BitVec 32 := Scalar.muli v5 c1_i32_434
  let v848 : BitVec 32 := Scalar.addi c0_i32_435 v847
  v848.toNat
def k0_dev7 (d0 : Dev nD) : Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_602 : BitVec 32 := 1#32
  let v1150 : BitVec 32 := Scalar.muli v7 c1_i32_602
  let v1151 : BitVec 32 := Scalar.addi c0_i32_603 v1150
  v1151.toNat
def k0_dev8 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_611 : BitVec 32 := 1#32
  let v1160 : BitVec 32 := Scalar.muli v5 c1_i32_611
  let v1161 : BitVec 32 := Scalar.addi c0_i32_612 v1160
  v1161.toNat
def k0_dev9 (d0 : Dev nD) : Nat :=
  let c0_i32_657 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_656 : BitVec 32 := 1#32
  let v1211 : BitVec 32 := Scalar.muli v7 c1_i32_656
  let v1212 : BitVec 32 := Scalar.addi c0_i32_657 v1211
  v1212.toNat
def k0_dev10 (d0 : Dev nD) : Nat :=
  let c0_i32_666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_665 : BitVec 32 := 1#32
  let v1221 : BitVec 32 := Scalar.muli v5 c1_i32_665
  let v1222 : BitVec 32 := Scalar.addi c0_i32_666 v1221
  v1222.toNat
def k0_off36 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_626 : BitVec 32 := 4#32
  let v1178 : BitVec 32 := Scalar.addi v2 c4_i32_626
  let v1179 : BitVec 32 := Scalar.subi v1178 c3_i32
  let c4_i32_627 : BitVec 32 := 4#32
  let v1180 : BitVec 32 := Scalar.remsi v1179 c4_i32_627
  let c2_i32_671 : BitVec 32 := 2#32
  let v1231 : BitVec 32 := Scalar.divsi v1180 c2_i32_671
  let v1235 : Index := Scalar.indexCast v1231
  let c2_i32_672 : BitVec 32 := 2#32
  let v1232 : BitVec 32 := Scalar.remsi v1180 c2_i32_672
  let c256_i32_673 : BitVec 32 := 256#32
  let v1233 : BitVec 32 := Scalar.muli v1232 c256_i32_673
  let v1236 : Index := Scalar.indexCast v1233
  let c0_674 : Index := 0#32
  ![v1235.toNat, v1236.toNat, 0]
def k0_off37 (d0 : Dev nD) (c3_i32_644 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1199 : BitVec 32 := Scalar.addi v2 c3_i32_644
  let c4_i32_645 : BitVec 32 := 4#32
  let v1200 : BitVec 32 := Scalar.remsi v1199 c4_i32_645
  let c2_i32_675 : BitVec 32 := 2#32
  let v1240 : BitVec 32 := Scalar.divsi v1200 c2_i32_675
  let v1245 : Index := Scalar.indexCast v1240
  let c2_i32_676 : BitVec 32 := 2#32
  let v1241 : BitVec 32 := Scalar.remsi v1200 c2_i32_676
  let c256_i32_677 : BitVec 32 := 256#32
  let v1242 : BitVec 32 := Scalar.muli v1241 c256_i32_677
  let c128_i32 : BitVec 32 := 128#32
  let v1244 : BitVec 32 := Scalar.addi v1242 c128_i32
  let v1246 : Index := Scalar.indexCast v1244
  let c0_678 : Index := 0#32
  ![v1245.toNat, v1246.toNat, 0]
def k0_dev11 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_701 : BitVec 32 := 1#32
  let v1266 : BitVec 32 := Scalar.muli v7 c1_i32_701
  let v1267 : BitVec 32 := Scalar.addi c0_i32_702 v1266
  v1267.toNat
def k0_dev12 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_711 : BitVec 32 := 1#32
  let v1276 : BitVec 32 := Scalar.muli v5 c1_i32_711
  let v1277 : BitVec 32 := Scalar.addi c0_i32_712 v1276
  v1277.toNat
def k0_off38 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v1286 : BitVec 32 := Scalar.addi v2 c8_i32
  let c4_i32_717 : BitVec 32 := 4#32
  let v1287 : BitVec 32 := Scalar.remsi v1286 c4_i32_717
  let c2_i32_721 : BitVec 32 := 2#32
  let v1290 : BitVec 32 := Scalar.divsi v1287 c2_i32_721
  let v1294 : Index := Scalar.indexCast v1290
  let c2_i32_722 : BitVec 32 := 2#32
  let v1291 : BitVec 32 := Scalar.remsi v1287 c2_i32_722
  let c256_i32_723 : BitVec 32 := 256#32
  let v1292 : BitVec 32 := Scalar.muli v1291 c256_i32_723
  let v1295 : Index := Scalar.indexCast v1292
  let c0_724 : Index := 0#32
  ![v1294.toNat, v1295.toNat, 0]
def k0_off39 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_728 : BitVec 32 := 2#32
  let v1301 : BitVec 32 := Scalar.divsi v2 c2_i32_728
  let v1306 : Index := Scalar.indexCast v1301
  let c2_i32_729 : BitVec 32 := 2#32
  let v1302 : BitVec 32 := Scalar.remsi v2 c2_i32_729
  let c256_i32_730 : BitVec 32 := 256#32
  let v1303 : BitVec 32 := Scalar.muli v1302 c256_i32_730
  let c128_i32_731 : BitVec 32 := 128#32
  let v1305 : BitVec 32 := Scalar.addi v1303 c128_i32_731
  let v1307 : Index := Scalar.indexCast v1305
  let c0_732 : Index := 0#32
  ![v1306.toNat, v1307.toNat, 0]
def k0_dev13 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_756 : BitVec 32 := 1#32
  let v1327 : BitVec 32 := Scalar.muli v7 c1_i32_756
  let v1328 : BitVec 32 := Scalar.addi c0_i32_757 v1327
  v1328.toNat
def k0_dev14 (d0 : Dev nD) : Nat :=
  let c0_i32_767 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_766 : BitVec 32 := 1#32
  let v1337 : BitVec 32 := Scalar.muli v5 c1_i32_766
  let v1338 : BitVec 32 := Scalar.addi c0_i32_767 v1337
  v1338.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x2048, .f32⟩
  | .hbm, ⟨2, _⟩ => ⟨S2x512x32x64, .f32⟩
  | .hbm, ⟨3, _⟩ => ⟨S2x512x32x64, .f32⟩
  | .hbm, ⟨4, _⟩ => ⟨S2048x768, .f32⟩
  | .hbm, ⟨5, _⟩ => ⟨S2x512x2048, .f32⟩
  | .hbm, ⟨6, _⟩ => ⟨S2x512x32x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S2x32x512x512, .f32⟩
  | .hbm, ⟨51, _⟩ => ⟨S_, .f32⟩
  | .hbm, ⟨52, _⟩ => ⟨S2x32x512x512, .f32⟩
  | .hbm, ⟨53, _⟩ => ⟨S2x32x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S2x32x512x512, .i1⟩
  | .hbm, ⟨58, _⟩ => ⟨S2x32x512x512, .f32⟩
  | .hbm, ⟨59, _⟩ => ⟨S2x32x512x512, .f32⟩
  | .hbm, ⟨60, _⟩ => ⟨S_, .f32⟩
  | .hbm, ⟨61, _⟩ => ⟨S2x32x512, .f32⟩
  | .hbm, ⟨62, _⟩ => ⟨S2x32x512x1, .f32⟩
  | .hbm, ⟨63, _⟩ => ⟨S2x32x512x512, .f32⟩
  | .hbm, ⟨64, _⟩ => ⟨S2x32x512x512, .f32⟩
  | .hbm, ⟨65, _⟩ => ⟨S2x32x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x32x512, .f32⟩
  | .hbm, ⟨71, _⟩ => ⟨S2x32x512x1, .f32⟩
  | .hbm, ⟨72, _⟩ => ⟨S_, .f32⟩
  | .hbm, ⟨73, _⟩ => ⟨S_, .f32⟩
  | .hbm, ⟨74, _⟩ => ⟨S2x32x512x1, .i1⟩
  | .hbm, ⟨75, _⟩ => ⟨S2x32x512x1, .f32⟩
  | .hbm, ⟨76, _⟩ => ⟨S2x32x512x1, .f32⟩
  | .hbm, ⟨77, _⟩ => ⟨S2x32x512x512, .f32⟩
  | .hbm, ⟨78, _⟩ => ⟨S2x32x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x32x512x512, .i1⟩
  | .hbm, ⟨83, _⟩ => ⟨S2x32x512x512, .f32⟩
  | .hbm, ⟨84, _⟩ => ⟨S2x32x512x512, .f32⟩
  | .hbm, ⟨85, _⟩ => ⟨S2x32x64x512, .f32⟩
  | .hbm, ⟨86, _⟩ => ⟨S2x512x32x64, .f32⟩
  | .hbm, ⟨87, _⟩ => ⟨S2x512x2048, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Slots.lean ====
/-
The blocks of the kernel's buffers.

The kernel works on its two accumulators four blocks at a time, on its two landing areas six blocks, and on the
result eight blocks; each block is a rectangle of a buffer. A core holds a buffer block by block, each block at the
array of values it shows (`owns`). Here: a load and a store of one whole block, the cuts of the three buffer shapes
into their blocks, and a block seen through its two-dimensional squeeze.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Ring
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's cells and, beside them, the kernel's own, whose duties are named by truth values. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

section Generic

variable (c : Dev nD) {s : Shape} {e : EltTy} (M : Memref sig .tc .vmem s e)

/-- The block of `M` at offset `off`, of extent `size`. -/
abbrev blk (off size : Fin s.rank → ℕ) (inb : ∀ a, off a + size a ≤ s.size a) :
    Memref sig .tc .vmem (Rect.unit (s := s) off size inb).shape e :=
  M.slice (Rect.unit (s := s) off size inb) (fun _ => rfl)

/-- A load of a held block reads the array it is held at, whatever name the program gives the offset. -/
theorem wp_load_blk {off off' size : Fin s.rank → ℕ} (h : off = off') {inb : ∀ a, off a + size a ≤ s.size a}
    (inb' : ∀ a, off' a + size a ≤ s.size a) {q : PosShare TreeShare} {X : (⟨s.rank, size⟩ : Shape).Idx → Elt F e}
    {hl : M.view.LoadsAt (Rect.unit (s := s) off size inb).toLoadRect} {α : Type} {Q : α → sProp 𝕄}
    {k : ((Rect.unit (s := s) off size inb).toLoadRect.shape.Idx → Elt F e) → Prog (TpuEff nD τ sig (Elt F) Λ₀ .tc) α} :
    (owns (c : Thread nD τ) (blk M off' size inb') q X : sProp 𝕄)
      ⊢ iprop((owns (c : Thread nD τ) (blk M off' size inb') q X
            -∗ wp frame (wpE (defs₀ (F := F)) 𝒱₀ (c : Thread nD τ) none) Set.univ (k X) Q)
          -∗ wp frame (wpE (defs₀ (F := F)) 𝒱₀ (c : Thread nD τ) none) Set.univ
              (.op (.load M (Rect.unit (s := s) off size inb).toLoadRect hl) k) Q) := by
  subst h
  unfold owns
  iintro ⟨%f, %hf, H⟩ Hk
  iapply (wp_load_rect 𝒱₀ (c : Thread nD τ) none Set.univ (m := M) (r := Rect.unit (s := s) off size inb)
    (S := (M.access (Rect.unit (s := s) off size inb)).set) (f := f) subset_rfl) $$ H
  iintro H
  have hv : (M.access (Rect.unit (s := s) off size inb)).read (Elt F) f = X := hf
  rw [hv]
  iapply Hk
  iexists f
  isplitr; · ipureintro; exact hf
  iexact H

/-- A store to a whole held block leaves it at the array stored. -/
theorem wp_store_blk {off off' size : Fin s.rank → ℕ} (h : off = off') {inb : ∀ a, off a + size a ≤ s.size a}
    (inb' : ∀ a, off' a + size a ≤ s.size a) {X w : (⟨s.rank, size⟩ : Shape).Idx → Elt F e}
    {hx : (M.access (Rect.unit (s := s) off size inb)).Stores Finset.univ} {hm} {α : Type} {Q : α → sProp 𝕄}
    {k : PUnit → Prog (TpuEff nD τ sig (Elt F) Λ₀ .tc) α} :
    (owns (c : Thread nD τ) (blk M off' size inb') fullShare X : sProp 𝕄)
      ⊢ iprop((owns (c : Thread nD τ) (blk M off' size inb') fullShare w
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store M (Rect.unit (s := s) off size inb) w Finset.univ hx hm) k) Q) := by
  subst h
  unfold owns
  iintro ⟨%f, %hf, H⟩ Hk
  iapply (wp_store 𝒱₀ (c : Thread nD τ) none Set.univ (m := M) (r := Rect.unit (s := s) off size inb) (Mk := Finset.univ)
    (S := (blk M off size inb).view.set) (f := f) subset_rfl) $$ H
  iintro H
  iapply Hk
  iexists (M.access (Rect.unit (s := s) off size inb)).write (Elt F) f w Finset.univ
  isplitr
  · ipureintro; exact View.read_write_univ _ _
  iexact H

end Generic

/-! ## The three families of blocks -/

theorem inbA (k : Fin 4) : ∀ a, (![k.val, 0, 0] : Fin 3 → ℕ) a + S1x128x768.size a ≤ S4x128x768.size a := by
  revert k; decide
theorem inbC (h : Fin 6) : ∀ a, (![h.val, 0, 0] : Fin 3 → ℕ) a + S1x128x768.size a ≤ S6x128x768.size a := by
  revert h; decide
theorem inbO (j : Fin 4 × Fin 2) :
    ∀ a, (![j.1.val / 2, 256 * (j.1.val % 2) + 128 * j.2.val, 0] : Fin 3 → ℕ) a + S1x128x768.size a ≤ S2x512x768.size a := by
  revert j; decide

/-- Block `k` of an accumulator; -/
abbrev rA (k : Fin 4) : Rect S4x128x768 := Rect.unit (s := S4x128x768) ![k.val, 0, 0] S1x128x768.size (inbA k)
/-- block `h` of a landing area; -/
abbrev rC (h : Fin 6) : Rect S6x128x768 := Rect.unit (s := S6x128x768) ![h.val, 0, 0] S1x128x768.size (inbC h)
/-- half `j.2` of chunk `j.1` of the result. -/
abbrev rO (j : Fin 4 × Fin 2) : Rect S2x512x768 :=
  Rect.unit (s := S2x512x768) ![j.1.val / 2, 256 * (j.1.val % 2) + 128 * j.2.val, 0] S1x128x768.size (inbO j)

theorem rA_disjoint : ∀ k k', k ≠ k' → Disjoint (rA k).set (rA k').set :=
  Ring.lead_disjoint (s := S4x128x768) (NB := 4) 0 1 (fun k => ![k.val, 0, 0]) S1x128x768.size inbA
    (fun b => by simp) rfl
theorem rA_cover : Finset.univ.biUnion (fun k => (rA k).set) = Finset.univ :=
  Ring.lead_cover (s := S4x128x768) (NB := 4) 0 1 (fun k => ![k.val, 0, 0]) S1x128x768.size inbA
    (fun b => by simp) (by decide) rfl (by decide) rfl
theorem rC_disjoint : ∀ k k', k ≠ k' → Disjoint (rC k).set (rC k').set :=
  Ring.lead_disjoint (s := S6x128x768) (NB := 6) 0 1 (fun k => ![k.val, 0, 0]) S1x128x768.size inbC
    (fun b => by simp) rfl
theorem rC_cover : Finset.univ.biUnion (fun k => (rC k).set) = Finset.univ :=
  Ring.lead_cover (s := S6x128x768) (NB := 6) 0 1 (fun k => ![k.val, 0, 0]) S1x128x768.size inbC
    (fun b => by simp) (by decide) rfl (by decide) rfl

theorem rO_disjoint (j j' : Fin 4 × Fin 2) (h : j ≠ j') : Disjoint (rO j).set (rO j').set := by
  rw [Finset.disjoint_left]
  intro i hi hi'
  have h0 := (Rect.mem_set_unit.mp hi) 0
  have h1 := (Rect.mem_set_unit.mp hi) 1
  have h0' := (Rect.mem_set_unit.mp hi') 0
  have h1' := (Rect.mem_set_unit.mp hi') 1
  obtain ⟨k, l⟩ := j
  obtain ⟨k', l'⟩ := j'
  simp [S1x128x768] at h0 h1 h0' h1'
  apply h
  have hk := k.isLt; have hk' := k'.isLt; have hl := l.isLt; have hl' := l'.isLt
  refine Prod.ext (Fin.ext ?_) (Fin.ext ?_) <;> simp only <;> omega

theorem rO_cover : Finset.univ.biUnion (fun j => (rO j).set) = Finset.univ := by
  ext i
  simp only [Finset.mem_biUnion, Finset.mem_univ, true_and, iff_true]
  have h0 : (i 0).val < 2 := (i 0).isLt
  have h1 : (i 1).val < 512 := (i 1).isLt
  have h2 : (i 2).val < 768 := (i 2).isLt
  refine ⟨(⟨2 * (i 0).val + (i 1).val / 256, by omega⟩, ⟨(i 1).val % 256 / 128, by omega⟩), Rect.mem_set_unit.mpr fun a => ?_⟩
  match a with
  | 0 => simp [S1x128x768]; omega
  | 1 => simp [S1x128x768]; omega
  | 2 => simp [S1x128x768]; omega

/-- Which chunk is `k` places after a device's own. -/
def rel (c : Dev nD) (k : ℕ) : Fin 4 := ⟨(c.val + k) % 4, Nat.mod_lt _ (by decide)⟩

end Cert.KernelIdeal.Run

end
-- ==== Proof.KernelIdeal.Proto.lean ====
/-
The two rings: who copies what onto whom, who waits for what, and what each landing hands over.

The four devices stand in a ring. Every device sends six blocks to its right neighbour (direction `false`) and six to its
left neighbour (direction `true`). Step `h` of direction `d` copies one block into block `h` of the neighbour's landing
area for that direction; it signals the sender's semaphore `snd (d, h)` and the receiver's `rcv (d, h)`, one block's
credit each.

* Before the first copy each device signals both neighbours' barrier cell, one unit each, and waits for two units on its
  own. The signal to the left neighbour hands it the device's landing area for direction `false`, the one to the right
  neighbour the landing area for direction `true`.
* Steps 0 to 3 send accumulator blocks: the device's own partial product of chunk `c`, then three times the accumulated sum
  of the next chunk. Steps 4 and 5 forward the block that landed in step 3 and in step 4.
* A device waits for each landing before it uses it, in the order it sends; at a wait for step `h` of direction `d` it owes
  only later copies. The waits on its own sends come last, when it owes nothing.

Every cell has one round. A landing's duty hands the receiver its landing block at the block sent, a send's duty gives the
sender its source block back.
-/
module

public import proofs.«01_k».proof.Proof.KernelIdeal.Slots
public import Idealize.ShloMosaic.Lib.ViewIndex

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ring -/

/-- The right and the left neighbour. -/
def nxt (c : Dev nD) : Dev nD := ⟨(c.val + 1) % 4, Nat.mod_lt _ (by decide)⟩
def prv (c : Dev nD) : Dev nD := ⟨(c.val + 3) % 4, Nat.mod_lt _ (by decide)⟩

/-- Whom a device sends to in direction `d`, and whom it receives from. -/
def peer (d : Bool) (c : Dev nD) : Dev nD := if d then prv c else nxt c
def from' (d : Bool) (c : Dev nD) : Dev nD := if d then nxt c else prv c

theorem peer_from (d : Bool) (c : Dev nD) : peer d (from' d c) = c := by revert d c; decide
theorem from_peer (d : Bool) (c : Dev nD) : from' d (peer d c) = c := by revert d c; decide

/-- The ring of direction `d` as a permutation of the devices. -/
def ring (d : Bool) : Dev nD ≃ Dev nD := ⟨peer d, from' d, from_peer d, peer_from d⟩

/-! ## The cells -/

/-- A step: its direction and its number. -/
abbrev Stp : Type := Bool × Fin 6

theorem inb6 (h : Fin 6) : ∀ a, (![h.val] : Fin 1 → ℕ) a + S1.size a ≤ S6.size a := by revert h; decide

/-- Entry `h` of an array of six semaphores. -/
abbrev semAt (A : DmaSems sig S6) (h : Fin 6) : DmaSem sig :=
  ((A.slice (Rect.unit (s := S6) ![h.val] S1.size (inb6 h))).squeeze S_ squeezes_S1_S_).sem

def sArr : Bool → DmaSems sig S6 | false => cc0_scratch4 | true => cc0_scratch6
def rArr : Bool → DmaSems sig S6 | false => cc0_scratch5 | true => cc0_scratch7
abbrev sndS (j : Stp) : DmaSem sig := semAt (sArr j.1) j.2
abbrev rcvS (j : Stp) : DmaSem sig := semAt (rArr j.1) j.2
abbrev barS : Sem sig := (SemArray.scalar (sig.barrier 0 rfl) : Sems sig S_).sem

/-- The names of a device's cells: the barrier (`none`), the receipt (`true`) and the send (`false`) of each step. -/
abbrev CK : Type := Option (Bool × Stp)
def csem : CK → SemLoc sig
  | none => .reg barS
  | some (true, j) => .dma (rcvS j)
  | some (false, j) => .dma (sndS j)
theorem csem_inj : Function.Injective csem := by
  have h : ∀ k k', csem k = csem k' → k = k' := by decide
  exact fun k k' => h k k'

abbrev kcell (ck : Dev nD × CK) : GSem nD τ sig := ((ck.1 : Thread nD τ), csem ck.2)
abbrev barCell (c : Dev nD) : GSem nD τ sig := kcell (c, none)
abbrev sndCell (c : Dev nD) (j : Stp) : GSem nD τ sig := kcell (c, some (false, j))
abbrev rcvCell (c : Dev nD) (j : Stp) : GSem nD τ sig := kcell (c, some (true, j))

open Classical in
/-- The name of a semaphore, if it is one of these. -/
def code (s : SemLoc sig) : Option CK := if h : ∃ k, csem k = s then some h.choose else none
theorem code_csem (k : CK) : code (csem k) = some k := by
  unfold code
  have h : ∃ k', csem k' = csem k := ⟨k, rfl⟩
  rw [dif_pos h, csem_inj h.choose_spec]
theorem code_none {s : SemLoc sig} (h : ∀ k, csem k ≠ s) : code s = none := by
  unfold code; exact dif_neg fun ⟨k, hk⟩ => h k hk

/-! ## The blocks -/

abbrev aM : Bool → Memref sig .tc .vmem S4x128x768 .bf16
  | false => Memref.whole cc0_scratch0 | true => Memref.whole cc0_scratch1
abbrev cM : Bool → Memref sig .tc .vmem S6x128x768 .bf16
  | false => Memref.whole cc0_scratch2 | true => Memref.whole cc0_scratch3

/-- Block `k` of the accumulator, block `h` of the landing area, of direction `d`. -/
abbrev aB (d : Bool) (k : Fin 4) : Memref sig .tc .vmem S1x128x768 .bf16 := blk (aM d) ![k.val, 0, 0] S1x128x768.size (inbA k)
abbrev cB (d : Bool) (h : Fin 6) : Memref sig .tc .vmem S1x128x768 .bf16 := blk (cM d) ![h.val, 0, 0] S1x128x768.size (inbC h)

/-- How far after the device's own chunk the one lies that step `h` of direction `d` sends. -/
def hop (d : Bool) : Fin 6 → ℕ
  | 1 => if d then 1 else 3
  | 2 => 2
  | 3 => if d then 3 else 1
  | _ => 0

/-- The block step `h` of direction `d` sends, and the share of it that is lent to the copy. -/
def srcB (c : Dev nD) (d : Bool) : Fin 6 → Memref sig .tc .vmem S1x128x768 .bf16
  | 4 => cB d 3
  | 5 => cB d 4
  | h => aB d (rel c (hop d h))
def srcQ : Fin 6 → PosShare TreeShare
  | 4 => fullShare.left
  | 5 => fullShare.left
  | _ => fullShare

abbrev sq (M : Memref sig .tc .vmem S1x128x768 .bf16) : Memref sig .tc .vmem S128x768 .bf16 := M.squeeze S128x768 squeezes_S1x128x768_S128x768

abbrev N : ℕ := (sq (cB false 0)).view.dmaCredit
theorem N_pos : 0 < N := View.dmaCredit_pos _ (by decide)

/-- A block is known by its offset. -/
theorem blk_congr {s : Shape} {e : EltTy} (M : Memref sig .tc .vmem s e) {off off' size : Fin s.rank → ℕ} (h : off = off')
    (inb : ∀ a, off a + size a ≤ s.size a) (inb' : ∀ a, off' a + size a ≤ s.size a) : blk M off size inb = blk M off' size inb' := by
  subst h; rfl

theorem squeeze_set (M : Memref sig .tc .vmem S1x128x768 .bf16) : (sq M).view.set = M.view.set :=
  View.set_reshape _ _

/-- What a copy between two squeezed blocks leaves: the target block shows what the source block showed. -/
theorem landed_read (sB dB : Memref sig .tc .vmem S1x128x768 .bf16) (fs : sB.view.ty.Contents (Elt F)) (fd : dB.view.ty.Contents (Elt F)) :
    dB.view.read (Elt F) ((sq dB).view.write (Elt F) fd ((sq sB).view.read (Elt F) fs) Finset.univ) = sB.view.read (Elt F) fs := by
  funext y
  obtain ⟨x, rfl⟩ := (Shape.reshapeEquiv (squeezes_S1x128x768_S128x768).numel_eq).surjective y
  exact View.read_write_reshape dB.view _ _ _ _

/-! ## What travels -/

/-- The sum of two blocks of the accumulators. -/
abbrev addB (a b : Vec F S1x128x768 .bf16) : Vec F S1x128x768 .bf16 := k0_pay68 a b

section Contents
variable (P : Bool → Dev nD → ℕ → Vec F S1x128x768 .bf16)

/-- The block device `c` sends at step `h` of direction `d`, from the devices' partial products `P d c k` of the chunk `k`
    places after their own: first its own chunk's, then what landed added to its partial product of the chunk that landed,
    last what landed itself. -/
def snt (d : Bool) : ℕ → Dev nD → Vec F S1x128x768 .bf16
  | 0, c => P d c 0
  | 1, c => addB (P d c (if d then 1 else 3)) (snt d 0 (from' d c))
  | 2, c => addB (P d c 2) (snt d 1 (from' d c))
  | 3, c => addB (P d c (if d then 3 else 1)) (snt d 2 (from' d c))
  | h + 4, c => snt d (h + 3) (from' d c)

/-- The block that lands on `c` at step `j`. -/
def lnd (j : Stp) (c : Dev nD) : Vec F S1x128x768 .bf16 := snt P j.1 j.2.val (from' j.1 c)

/-! ## The schedule -/

/-- What the signal naming direction `d` hands device `c`: the landing area its copies of that direction go to. -/
def barPay (c : Dev nD) (d : Bool) : sProp 𝕄 :=
  iprop((∃ X, owns (peer d c : Thread nD τ) (cB d 0) fullShare X) ∗ (∃ X, owns (peer d c : Thread nD τ) (cB d 1) fullShare X)
    ∗ (∃ X, owns (peer d c : Thread nD τ) (cB d 2) fullShare X) ∗ (∃ X, owns (peer d c : Thread nD τ) (cB d 3) fullShare X)
    ∗ (∃ X, owns (peer d c : Thread nD τ) (cB d 4) fullShare X) ∗ (∃ X, owns (peer d c : Thread nD τ) (cB d 5) fullShare X))
/-- A landing hands the receiver the landing block at the block sent, -/
def rcvPay (c : Dev nD) (j : Stp) : sProp 𝕄 := owns (c : Thread nD τ) (cB j.1 j.2) fullShare (lnd P j c)
/-- a completed send its source block to the sender. -/
def sndPay (c : Dev nD) (j : Stp) : sProp 𝕄 := owns (c : Thread nD τ) (srcB c j.1 j.2) (srcQ j.2) (snt P j.1 j.2.val c)

def pay (c : Dev nD) (b : Bool) : CK → sProp 𝕄
  | none => barPay c b
  | some (true, j) => rcvPay P c j
  | some (false, j) => sndPay P c j

instance pay_storable (c : Dev nD) (b : Bool) (k : CK) : BI.Storable (upEmb : UEmb _ 𝕄) (pay P c b k) := by
  rcases k with _ | ⟨_ | _, j⟩
  · unfold pay barPay; infer_instance
  · unfold pay sndPay; infer_instance
  · unfold pay rcvPay; infer_instance

def dut : CK → Finset Bool
  | none => Finset.univ
  | some _ => {false}
def amt : CK → ℕ
  | none => 1
  | some _ => N
theorem amt_pos (k : CK) : 0 < amt k := by
  rcases k with _ | _
  · exact Nat.one_pos
  · exact N_pos

/-- One round per cell: a barrier cell has two duties of one unit, every other cell the duty `false` of a block's credit. -/
def Rd : Rounds.Schedule (GSem nD τ sig) Bool 𝕄 where
  duties g r := if r = 0 ∧ g.1.2 = .tc then (code g.2).elim ∅ dut else ∅
  unitless _ := False
  amount g _ _ := (code g.2).elim 1 amt
  payload g _ b := (code g.2).elim iprop(emp) (pay P g.1.1 b)
  amount_pos g _ _ _ := by
    rcases code g.2 with _ | k
    · exact Nat.one_pos
    · exact amt_pos k

instance Rd_storable (g : GSem nD τ sig) (r : ℕ) (b : Bool) : BI.Storable (upEmb : UEmb _ 𝕄) ((Rd P).payload g r b) := by
  show BI.Storable upEmb ((code g.2).elim iprop(emp) (pay P g.1.1 b))
  rcases code g.2 with _ | k
  · exact (inferInstance : BI.Storable (upEmb : UEmb _ 𝕄) iprop(emp))
  · exact pay_storable P g.1.1 b k

theorem duties_at (c : Dev nD) (k : CK) : (Rd P).duties (kcell (c, k)) 0 = dut k := by
  dsimp only [Rd]; rw [if_pos ⟨rfl, rfl⟩, code_csem]; rfl
theorem duties_later (g : GSem nD τ sig) : ∀ r, 1 ≤ r → (Rd P).duties g r = ∅ :=
  fun r hr => by dsimp only [Rd]; rw [if_neg fun h => by omega]
theorem amount_at (c : Dev nD) (k : CK) (r : ℕ) (b : Bool) : (Rd P).amount (kcell (c, k)) r b = amt k := by
  dsimp only [Rd]; rw [code_csem]; rfl
theorem payload_at (c : Dev nD) (k : CK) (b : Bool) : (Rd P).payload (kcell (c, k)) 0 b = pay P c b k := by
  dsimp only [Rd]; rw [code_csem]; rfl
theorem expect_bar (c : Dev nD) : (Rd P).expect (barCell c) 0 = 2 := by
  unfold Schedule.expect Schedule.amountOf
  rw [duties_at, Finset.sum_congr rfl fun b _ => amount_at P c none 0 b]; rfl
theorem expect_some (c : Dev nD) (bj : Bool × Stp) : (Rd P).expect (kcell (c, some bj)) 0 = N := by
  unfold Schedule.expect Schedule.amountOf
  rw [duties_at]; exact (Finset.sum_singleton _ _).trans (amount_at P c (some bj) 0 false)

/-- The payloads of a whole round. -/
theorem rest_bar (c : Dev nD) : bigSep ((Rd P).duties (barCell c) 0 \ ∅) (fun b => (Rd P).payload (barCell c) 0 b)
    = iprop(barPay c false ∗ barPay c true) := by
  rw [Finset.sdiff_empty, duties_at]
  show bigSep Finset.univ _ = _
  rw [bigSep_univ_eq_bigSepL [false, true] (by decide) (by decide), bigSepL_cons_cons, bigSepL_singleton, payload_at, payload_at]
  rfl
theorem rest_some (c : Dev nD) (bj : Bool × Stp) :
    bigSep ((Rd P).duties (kcell (c, some bj)) 0 \ ∅) (fun b => (Rd P).payload (kcell (c, some bj)) 0 b) = pay P c false (some bj) := by
  rw [Finset.sdiff_empty, duties_at]
  exact bigSep_singleton.trans (payload_at P c (some bj) false)

end Contents

/-! ## What a device owes, and the levels -/

/-- The copies still to be made, the next one first. -/
abbrev order : List Stp :=
  [(false, 0), (true, 0), (false, 1), (true, 1), (false, 2), (true, 2), (false, 3), (true, 3), (false, 4), (true, 4), (false, 5), (true, 5)]

/-- A device that still has the copies `l` to make owes each one's receiver a block's credit. -/
def owe (c : Dev nD) : List Stp → CellTallies nD τ sig Unit
  | [] => 0
  | j :: l => owe c l + tallyAt (rcvCell (peer j.1 c) j) () N

/-- At launch it owes, besides, a unit to each neighbour's barrier cell. -/
def O₁ (c : Dev nD) : CellTallies nD τ sig Unit := owe c order + tallyAt (barCell (peer false c)) () 1
def O₀ (c : Dev nD) : CellTallies nD τ sig Unit := O₁ c + tallyAt (barCell (peer true c)) () 1

def rank (j : Stp) : ℕ := 2 * j.2.val + (if j.1 then 1 else 0)

def L (g : GSem nD τ sig) : Finset Unit := if g.1.2 = .tc then {()} else ∅
/-- Barrier cells stand at 1, the receipt of a step above them in the order of the copies, everything else at 0. -/
def lvl : CK → ℕ
  | none => 1
  | some (true, j) => 2 + rank j
  | some (false, _) => 0
def lv (g : GSem nD τ sig) (_ : Unit) : ℕ := (code g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) (u : Unit) : lv (kcell (c, k)) u = lvl k := by
  unfold lv; rw [code_csem]; rfl

theorem owe_pos {c : Dev nD} {g : GSem nD τ sig} {u : Unit} : ∀ {l : List Stp}, 0 < owe c l g u → ∃ j ∈ l, g = rcvCell (peer j.1 c) j
  | [], h => absurd h (Nat.lt_irrefl 0)
  | j :: l, h => by
    rw [owe, Pi.add_apply, Finsupp.add_apply, tallyAt_apply] at h
    by_cases hg : g = rcvCell (peer j.1 c) j
    · exact ⟨j, List.mem_cons_self, hg⟩
    · rw [if_neg (fun h' => hg h'.1), Nat.add_zero] at h
      obtain ⟨j', hj', e⟩ := owe_pos h
      exact ⟨j', List.mem_cons_of_mem _ hj', e⟩

theorem O₀_pos {c : Dev nD} {g : GSem nD τ sig} {u : Unit} (h : 0 < O₀ c g u) : ∃ c' k, g = kcell (c', k) ∧ 0 < lvl k := by
  unfold O₀ O₁ at h
  rw [Pi.add_apply, Finsupp.add_apply, Pi.add_apply, Finsupp.add_apply, tallyAt_apply, tallyAt_apply] at h
  by_cases h1 : g = barCell (peer true c)
  · exact ⟨_, _, h1, Nat.one_pos⟩
  by_cases h2 : g = barCell (peer false c)
  · exact ⟨_, _, h2, Nat.one_pos⟩
  rw [if_neg (fun h' => h2 h'.1), if_neg (fun h' => h1 h'.1)] at h
  change 0 < owe c order g u at h
  obtain ⟨j, -, e⟩ := owe_pos h
  exact ⟨_, _, e, by show 0 < 2 + rank j; omega⟩

/-- A staging cell may be waited on at launch's debt and at none. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨c', k, rfl, -⟩ := O₀_pos hg; rw [L_tc]; exact Finset.mem_singleton_self _)
      (fun p hp => by rw [Finset.mem_singleton.mp hp]; show (code (.dma q)).elim 0 lvl ≤ 0; rw [code_none hq]; exact Nat.le_refl 0)
      (fun g u hg => by obtain ⟨c', k, rfl, h⟩ := O₀_pos hg; rw [lv_at]; exact h)
  · rw [MayWait_zero]; iintro -; iempintro

/-- A cell below every receipt still owed may be waited on. -/
theorem mayWait_owe (c : Dev nD) (k : CK) (l : List Stp) (h : ∀ j ∈ l, lvl k < lvl (some (true, j))) :
    (levAts L lv : sProp 𝕄) ⊢ MayWait (c : Thread nD τ) (csem k) () (owe c l) :=
  MayOwe.of_cut (L := L) (lev := lv) (lvl k) (fun p hp => by rw [Finset.mem_singleton.mp hp, L_tc]; exact Finset.mem_singleton_self _)
    (fun g u hg => by obtain ⟨j, -, rfl⟩ := owe_pos hg; rw [L_tc]; exact Finset.mem_singleton_self _)
    (fun p hp => by rw [Finset.mem_singleton.mp hp]; exact (lv_at c k ()).le)
    (fun g u hg => by obtain ⟨j, hj, rfl⟩ := owe_pos hg; rw [lv_at]; exact h j hj)

end Cert.KernelIdeal.Run

end
-- ==== Proof.KernelIdeal.Steps.lean ====
/-
The kernel's operations under the protocol: a signal and the wait of the barrier, a copy, a wait for a landing and a wait
for a send, each stated once for any step; and a stretch of a program that only reads the five inputs, stated by the value
it computes.
-/
module

public import proofs.«01_k».proof.Proof.KernelIdeal.Proto

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Reading the inputs -/

/-- The shapes of the five inputs `x`, `Wq`, `K`, `V`, `Wo`, -/
abbrev inSh : Fin 5 → Shape
  | 0 => S2x512x768 | 1 => S768x2048 | 2 => S2x512x8x64 | 3 => S2x512x8x64 | 4 => S2048x768

/-- the buffers they are in, -/
abbrev inM : (w : Fin 5) → Memref sig .tc .vmem (inSh w) .f32
  | 0 => Memref.whole cc0_stg0_0 | 1 => Memref.whole cc0_stg1_0 | 2 => Memref.whole cc0_stg2_0 | 3 => Memref.whole cc0_stg3_0
  | 4 => Memref.whole cc0_stg4_0

/-- and contents for them. -/
abbrev Ins (F : FTy → Type) : Type := (w : Fin 5) → (inM w).view.ty.Contents (Elt F)

/-- The five buffers held at these contents. -/
def insAt (c : Dev nD) (I : Ins F) : sProp 𝕄 :=
  bigSep Finset.univ fun w : Fin 5 => (inM w).view.loc (c : Thread nD τ) ↦[Finset.univ]{fullShare} I w

/-- The part of input `w` that a load at offset `off` reads. -/
abbrev rd (I : Ins F) (w : Fin 5) (r : LoadRect (inSh w)) : r.shape.Idx → Elt F .f32 := (inM w).view.readAt (Elt F) r (I w)

/-- `Reads I p p'`: from the inputs `I`, program `p` goes on as `p'` after some loads of the inputs. -/
inductive Reads (I : Ins F) {α : Type} : Prog (TpuEff nD τ sig (Elt F) Λ₀ .tc) α → Prog (TpuEff nD τ sig (Elt F) Λ₀ .tc) α → Prop
  | refl {p} : Reads I p p
  | load (w : Fin 5) {r : LoadRect (inSh w)} {hl : (inM w).view.LoadsAt r}
      {k : (r.shape.Idx → Elt F .f32) → Prog (TpuEff nD τ sig (Elt F) Λ₀ .tc) α} {p'} :
      Reads I (k (rd I w r)) p' → Reads I (.op (.load (inM w) r hl) k) p'

theorem ins_split (c : Dev nD) (I : Ins F) (w : Fin 5) : insAt c I
    = iprop(((inM w).view.loc (c : Thread nD τ) ↦[Finset.univ]{fullShare} I w)
      ∗ bigSep (Finset.univ.erase w) fun w : Fin 5 => (inM w).view.loc (c : Thread nD τ) ↦[Finset.univ]{fullShare} I w) :=
  bigSep_erase (Finset.mem_univ w)

theorem wp_reads {c : Dev nD} {I : Ins F} {α : Type} {p p' : Prog (TpuEff nD τ sig (Elt F) Λ₀ .tc) α} {Q : α → sProp 𝕄}
    (h : Reads I p p') :
    insAt c I ⊢ iprop((insAt c I -∗ wp frame (wpE (defs₀ (F := F)) 𝒱₀ (c : Thread nD τ) none) Set.univ p' Q)
      -∗ wp frame (wpE (defs₀ (F := F)) 𝒱₀ (c : Thread nD τ) none) Set.univ p Q) := by
  induction h with
  | refl => iintro H Hk; iapply Hk; iexact H
  | load w _ ih =>
    iintro H Hk
    ihave H2 := (Entails.of_eq (ins_split c I w)) $$ H
    icases H2 with ⟨Hw, Hr⟩
    iapply (wp_load 𝒱₀ (c : Thread nD τ) none Set.univ (m := inM w) (Finset.subset_univ _)) $$ Hw
    iintro Hw
    iapply ih $$ [Hw Hr]
    · iapply (Entails.of_eq (ins_split c I w).symm)
      isplitl [Hw] <;> iassumption
    iexact Hk

/-! ## The copies -/

section Steps
variable (P : Bool → Dev nD → ℕ → Vec F S1x128x768 .bf16) (K : Dev nD × CK → ℕ)

/-- Every cell's invariant, and that its round 0 is reached. -/
def recs : sProp 𝕄 := bigSep Finset.univ fun ck : Dev nD × CK => iprop(cellInv ER (Rd P) (K ck) (kcell ck) ∗ reached ER (kcell ck) 0)
instance recs_persistent : BI.Persistent (recs P K) := by unfold recs; infer_instance

theorem inv_at (ck : Dev nD × CK) : recs P K ⊢ cellInv ER (Rd P) (K ck) (kcell ck) :=
  (bigSep_elim (Finset.mem_univ ck)).trans (sep_and.trans and_elimL)
theorem reached_at (ck : Dev nD × CK) : recs P K ⊢ reached ER (kcell ck) 0 :=
  (bigSep_elim (Finset.mem_univ ck)).trans (sep_and.trans and_elimR)

/-- What device `c` owes while the copies `l` are to be made, whatever it has waited on. -/
def owesA (c : Dev nD) (O : CellTallies nD τ sig Unit) : sProp 𝕄 := iprop(∃ W, owes (c : Thread nD τ) O W)

/-- The two duties a copy pays. -/
def toks (c : Dev nD) (j : Stp) : sProp 𝕄 :=
  iprop(dutyTok ER (sndCell c j) 0 false ∗ dutyTok ER (rcvCell (peer j.1 c) j) 0 false)
/-- The right to wait on a cell of one duty. -/
def turn (c : Dev nD) (bj : Bool × Stp) : sProp 𝕄 :=
  iprop(cred (tallyAt (kcell (c, some bj)) () N) ∗ atPos ER (kcell (c, some bj)) 0 ∅ 0)

/-- A copy: the source block's share goes with it, and the target's landing block. -/
theorem wp_copy (c n : Dev nD) (j : Stp) (l : List Stp) (hn : n = peer j.1 c)
    {src dst : Memref sig .tc .vmem S128x768 .bf16} (hs : src = sq (srcB c j.1 j.2)) (hd : dst = sq (cB j.1 j.2))
    {sS rS : DmaSem sig} (hsS : sS = sndS j) (hrS : rS = rcvS j)
    {hsc : (dst : Memref sig (Dev.tc n : Thread nD τ).2.kind .vmem S128x768 .bf16).view.ref.isScScratch = false}
    {hsrc : src.view.WordExact} {hdst : dst.view.WordExact}
    {hsem : DmaTarget.Typed .vmem (.dma rS) (.remote (Dev.tc n : Thread nD τ) (dst : Memref sig (Dev.tc n : Thread nD τ).2.kind .vmem S128x768 .bf16) (.dma sS) hsc)}
    {α : Type} {Q : α → sProp 𝕄} {k : PUnit → Prog (TpuEff nD τ sig (Elt F) Λ₀ .tc) α} :
    iprop(recs P K ∗ owns (c : Thread nD τ) (srcB c j.1 j.2) (srcQ j.2) (snt P j.1 j.2.val c)
        ∗ (∃ X, owns (peer j.1 c : Thread nD τ) (cB j.1 j.2) fullShare X)
        ∗ owesA c (owe c (j :: l)) ∗ toks c j)
      ⊢ iprop(((cred (tallyAt (sndCell c j) () N) ∗ owesA c (owe c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hs hd hsS hrS
  unfold owns owesA toks
  iintro ⟨#HR, ⟨%fs, %hfs, Hs⟩, ⟨%X, %fd, -, Hd⟩, ⟨%W, HO⟩, Ht1, Ht2⟩ Hk
  ihave #HI1 := (inv_at P K (c, some (false, j))) $$ HR
  ihave #HI2 := (inv_at P K (peer j.1 c, some (true, j))) $$ HR
  ihave #HR1 := (reached_at P K (c, some (false, j))) $$ HR
  ihave #HR2 := (reached_at P K (peer j.1 c, some (true, j))) $$ HR
  iapply (Rounds.wp_send_pointsTo 𝒱₀ ER (Rd P) (c : Thread nD τ) none (c' := (peer j.1 c : Thread nD τ))
    (src := sq (srcB c j.1 j.2)) (dst := sq (cB j.1 j.2)) (sS := .dma (sndS j)) (sem := .dma (rcvS j))
    (κ₁ := K (c, some (false, j))) (κ₂ := K (peer j.1 c, some (true, j)))
    (r₁ := 0) (r₂ := 0) (d₁ := false) (d₂ := false) (fs := fs) (fd := fd) (q := srcQ j.2)
    ((duties_at P c (some (false, j))).symm ▸ Finset.mem_singleton_self _)
    ((duties_at P (peer j.1 c) (some (true, j))).symm ▸ Finset.mem_singleton_self _)
    () () N rfl (amount_at P c (some (false, j)) 0 false) (amount_at P (peer j.1 c) (some (true, j)) 0 false)
    (owe c l) rfl (W := W)
    (by
      rw [show (Rd P).payload ((c : Thread nD τ), .dma (sndS j)) 0 false = sndPay P c j from payload_at P c (some (false, j)) false]
      unfold sndPay owns
      iintro H
      iexists fs
      isplitr; · ipureintro; exact hfs
      iapply (Entails.of_eq (congrArg (fun S => ((c : Thread nD τ).loc _ ↦[S]{srcQ j.2} fs : sProp 𝕄)) (squeeze_set (srcB c j.1 j.2))))
      iexact H)
    (by
      rw [show (Rd P).payload ((peer j.1 c : Thread nD τ), .dma (rcvS j)) 0 false = rcvPay P (peer j.1 c) j from
        payload_at P (peer j.1 c) (some (true, j)) false]
      unfold rcvPay owns
      iintro H
      iexists (sq (cB j.1 j.2)).view.write (Elt F) fd ((sq (srcB c j.1 j.2)).view.read (Elt F) fs) Finset.univ
      isplitr
      · ipureintro
        rw [landed_read, hfs, lnd, from_peer]
      iapply (Entails.of_eq (congrArg (fun S => ((peer j.1 c : Thread nD τ).loc _ ↦[S]{fullShare} _ : sProp 𝕄)) (squeeze_set (cB j.1 j.2))))
      iexact H)) $$ [Hs Hd HO Ht1 Ht2]
  · isplitr; · iexact HI1
    isplitr; · iexact HI2
    isplitl [Hs]
    · iapply (Entails.of_eq (congrArg (fun S => ((c : Thread nD τ).loc _ ↦[S]{srcQ j.2} fs : sProp 𝕄)) (squeeze_set (srcB c j.1 j.2)).symm))
      iexact Hs
    isplitl [Hd]
    · iapply (Entails.of_eq (congrArg (fun S => ((peer j.1 c : Thread nD τ).loc _ ↦[S]{fullShare} fd : sProp 𝕄)) (squeeze_set (cB j.1 j.2)).symm))
      iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-- A wait on a cell of one duty: the payload comes, and the cell is done with. -/
theorem wp_turn (c : Dev nD) (bj : Bool × Stp) (l : List Stp) (hl : ∀ j ∈ l, lvl (some bj) < lvl (some (true, j)))
    {rS : DmaSem sig} (hrS : csem (some bj) = .dma rS) {a b : Memref sig .tc .vmem S128x768 .bf16} {ha hb}
    {α : Type} {Q : α → sProp 𝕄} {k : PUnit → Prog (TpuEff nD τ sig (Elt F) Λ₀ .tc) α} :
    iprop(recs P K ∗ levAts L lv ∗ owesA c (owe c l) ∗ turn c bj)
      ⊢ iprop(((pay P c false (some bj) ∗ semVal (kcell (c, some bj)) 0 ∗ owesA c (owe c l))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS a b ha hb) k) Q) := by
  unfold turn owesA
  iintro ⟨#HR, #HL, ⟨%W, HO⟩, Hc, Ha⟩ Hk
  ihave #HI := (inv_at P K (c, some bj)) $$ HR
  have hw : ∀ K' : PUnit → sProp 𝕄, wpE (defs₀ (F := F)) 𝒱₀ (c : Thread nD τ) none Set.univ (.waitDma2 rS a b ha hb) K'
      = waitSpec (c : Thread nD τ) Set.univ (csem (some bj)) N K' := fun K' => by
    rw [hrS]; exact wpE_waitDma2_eq 𝒱₀ (c : Thread nD τ) none Set.univ K'
  iapply (Rounds.wp_wait_rest_token 𝒱₀ ER (Rd P) (c : Thread nD τ) none (κ := K (c, some bj))
      hw (Set.mem_univ _) () (O := owe c l) (W := W) (R := 0) (m := 0) (T := ∅)
      (by rw [Nat.zero_add]; exact (expect_some P c bj).symm)) $$ [Hc HO Ha]
  · isplitr; · iexact HI
    isplitl [Hc]; · iexact Hc
    isplitl [HO]; · iexact HO
    isplitr; · iapply (mayWait_owe c (some bj) l hl); iexact HL
    iexact Ha
  iintro ⟨HO, Ha, -, Hp⟩
  ihave Hp := (Entails.of_eq (rest_some P c bj)) $$ Hp
  imod (Rounds.cell_close ER (Rd P) (Set.mem_univ (K (c, some bj))) (fun h => h) (R := 0 + 1) (duties_later P (kcell (c, some bj)))) $$ [Ha] with Hz
  · isplitr; · iexact HI
    iexact Ha
  iapply Hk
  isplitl [Hp]; · iexact Hp
  isplitl [Hz]; · iexact Hz
  iexists _; iexact HO

/-- The barrier: the device hands each neighbour a landing area and gets theirs. -/
theorem wp_barrier (c n₁ n₂ : Dev nD) (h₁ : n₁ = peer true c) (h₂ : n₂ = peer false c)
    {α : Type} {Q : α → sProp 𝕄} {p : Prog (TpuEff nD τ sig (Elt F) Λ₀ .tc) α} :
    iprop(recs P K ∗ levAts L lv ∗ owesA c (O₀ c)
        ∗ dutyTok ER (barCell (peer true c)) 0 false ∗ dutyTok ER (barCell (peer false c)) 0 true
        ∗ cred (tallyAt (barCell c) () 2) ∗ atPos ER (barCell c) 0 ∅ 0
        ∗ barPay (peer true c) false ∗ barPay (peer false c) true)
      ⊢ iprop(((barPay c false ∗ barPay c true ∗ semVal (barCell c) 0 ∗ owesA c (owe c order))
              -∗ wp frame (wpE (defs₀ (F := F)) 𝒱₀ (c : Thread nD τ) none) Set.univ p Q)
          -∗ wp frame (wpE (defs₀ (F := F)) 𝒱₀ (c : Thread nD τ) none) Set.univ
              ((semSignalWord n₁ barS 1#32).bind fun _ => (semSignalWord n₂ barS 1#32).bind fun _ => (semWaitWord barS 2#32).bind fun _ => p) Q) := by
  subst h₁ h₂
  simp only [semSignalWord, semWaitWord, Prog.lift, Prog.bind_op, Prog.bind_ret, Prog.pure_eq_ret]
  unfold owesA
  iintro ⟨#HR, #HL, ⟨%W, HO⟩, Ht1, Ht2, Hc, Ha, Hp1, Hp2⟩ Hk
  ihave #HI := (inv_at P K (c, none)) $$ HR
  ihave #HI1 := (inv_at P K (peer true c, none)) $$ HR
  ihave #HI2 := (inv_at P K (peer false c, none)) $$ HR
  ihave #HR1 := (reached_at P K (peer true c, none)) $$ HR
  ihave #HR2 := (reached_at P K (peer false c, none)) $$ HR
  iapply (Rounds.wp_signal 𝒱₀ ER (Rd P) (c : Thread nD τ) none (dst := (peer true c : Thread nD τ)) (κ := K (peer true c, none))
      (d := false) ((duties_at P (peer true c) none).symm ▸ Finset.mem_univ _) ((amount_at P (peer true c) none 0 false).trans (by decide)) () (O₁ c) rfl)
    $$ [HO Ht1 Hp1]
  · isplitr; · iexact HI1
    isplitl [HO]; · iexact HO
    isplitl [Ht1]; · iexact Ht1
    isplitl [Hp1]; · (rw [show (Rd P).payload ((peer true c : Thread nD τ), .reg barS) 0 false = barPay (peer true c) false from payload_at P (peer true c) none false]); iexact Hp1
    iexact HR1
  iintro HO
  iapply (Rounds.wp_signal 𝒱₀ ER (Rd P) (c : Thread nD τ) none (dst := (peer false c : Thread nD τ)) (κ := K (peer false c, none))
      (d := true) ((duties_at P (peer false c) none).symm ▸ Finset.mem_univ _) ((amount_at P (peer false c) none 0 true).trans (by decide)) () (owe c order) rfl)
    $$ [HO Ht2 Hp2]
  · isplitr; · iexact HI2
    isplitl [HO]; · iexact HO
    isplitl [Ht2]; · iexact Ht2
    isplitl [Hp2]; · (rw [show (Rd P).payload ((peer false c : Thread nD τ), .reg barS) 0 true = barPay (peer false c) true from payload_at P (peer false c) none true]); iexact Hp2
    iexact HR2
  iintro HO
  iapply (Rounds.wp_wait_rest_token 𝒱₀ ER (Rd P) (c : Thread nD τ) none (κ := K (c, none)) (sm := csem none)
      (wpE_semWait_eq 𝒱₀ (c : Thread nD τ) none Set.univ) (Set.mem_univ _) () (O := owe c order) (W := W) (R := 0) (m := 0) (T := ∅)
      (by rw [show (Rd P).expect ((c : Thread nD τ), csem none) 0 = 2 from expect_bar P c]; decide)) $$ [Hc HO Ha]
  · isplitr; · iexact HI
    isplitl [Hc]; · iexact Hc
    isplitl [HO]; · iexact HO
    isplitr; · iapply (mayWait_owe c none order (by decide)); iexact HL
    iexact Ha
  iintro ⟨HO, Ha, -, Hp⟩
  ihave Hp := (Entails.of_eq (rest_bar P c)) $$ Hp
  icases Hp with ⟨Hp1, Hp2⟩
  imod (Rounds.cell_close ER (Rd P) (Set.mem_univ (K (c, none))) (fun h => h) (R := 0 + 1) (duties_later P (barCell c))) $$ [Ha] with Hz
  · isplitr; · iexact HI
    iexact Ha
  iapply Hk
  isplitl [Hp1]; · iexact Hp1
  isplitl [Hp2]; · iexact Hp2
  isplitl [Hz]; · iexact Hz
  iexists _; iexact HO

end Steps

end Cert.KernelIdeal.Run

end
-- ==== Proof.KernelIdeal.Vals.lean ====
/-
What the kernel computes from its five inputs before any exchange, value by value.

The names are the program's own value numbers. Device `c` reads its inputs `I` and computes, one after another, the four
chunks of 256 rows of its partial product: first its own chunk, then those 1, 3 and 2 places after it. `part` collects the
result: the two halves of each chunk as they are stored in the two accumulators.
-/
module

public import proofs.«01_k».proof.Proof.KernelIdeal.Steps

@[expose] public section

noncomputable section

namespace Cert.KernelIdeal.Run

open Cert.KernelIdeal Cert.KernelIdeal.Gen

open Idealize.ShloMosaic
open Idealize.ShloMosaic.TcCoe

variable {F : FTy → Type} [FloatOps F]

namespace Val

variable (c : Dev nD) (I : Ins F)

/-! Part 1 of the body. -/

def v0 (c : Dev nD) (I : Ins F) : BitVec 32 := Dev.word c
def v1 (c : Dev nD) (I : Ins F) : BitVec 32 := Scalar.divsi (v0 c I) 1#32
def v2 (c : Dev nD) (I : Ins F) : BitVec 32 := Scalar.remsi (v1 c I) 4#32
def v3 (c : Dev nD) (I : Ins F) : BitVec 32 := Scalar.addi (v2 c I) 4#32
def v4 (c : Dev nD) (I : Ins F) : BitVec 32 := Scalar.subi (v3 c I) 1#32
def v5 (c : Dev nD) (I : Ins F) : BitVec 32 := Scalar.remsi (v4 c I) 4#32
def v6 (c : Dev nD) (I : Ins F) : BitVec 32 := Scalar.addi (v2 c I) 1#32
def v7 (c : Dev nD) (I : Ins F) : BitVec 32 := Scalar.remsi (v6 c I) 4#32
def v15 (c : Dev nD) (I : Ins F) : Vec F S768x512 .f32 := rd I 1 (Rect.unit (s := S768x2048) (k0_off1 c) S768x512.size (k0_off1_inb c)).toLoadRect
def v19 (c : Dev nD) (I : Ins F) : Vec F S512x768 .f32 := rd I 4 (Rect.unit (s := S2048x768) (k0_off2 c) S512x768.size (k0_off2_inb c)).toLoadRect
def v21 (c : Dev nD) (I : Ins F) : BitVec 32 := Scalar.divsi (v2 c I) 2#32
def v26 (c : Dev nD) (I : Ins F) : Vec F S1x256x768 .f32 := rd I 0 (Rect.unit (s := S2x512x768) (k0_off3 c) S1x256x768.size (k0_off3_inb c)).toLoadRect
def v16 (c : Dev nD) (I : Ins F) : FVec F S768x512 .f32 := k0_pay1 (v15 c I)
def v20 (c : Dev nD) (I : Ins F) : FVec F S512x768 .f32 := k0_pay2 (v19 c I)
def v28 (c : Dev nD) (I : Ins F) : FVec F S256x512 .f32 := k0_pay3 (v15 c I) (v26 c I)
def v31 (c : Dev nD) (I : Ins F) : IVec S256x512 32 := k0_pay4 c

/-! Part 2 of the body. -/

def v55 (c : Dev nD) (I : Ins F) : IVec S256x512 32 := k0_pay5 (v31 c I)
def v58 (c : Dev nD) (I : Ins F) : IVec S256x512 32 := k0_pay6
def v77 (c : Dev nD) (I : Ins F) : IVec S256x512 1 := k0_pay7
def c1_i32_27 (c : Dev nD) (I : Ins F) : BitVec 32 := 1#32

/-! Part 3 of the body. -/

def v84 (c : Dev nD) (I : Ins F) : Vec F S1x512x1x64 .f32 := rd I 2 (Rect.unit (s := S2x512x8x64) (k0_off4 c) S1x512x1x64.size (k0_off4_inb c)).toLoadRect
def v87 (c : Dev nD) (I : Ins F) : Vec F S1x512x1x64 .f32 := rd I 3 (Rect.unit (s := S2x512x8x64) (k0_off4 c) S1x512x1x64.size (k0_off4_inb c)).toLoadRect
def v106 (c : Dev nD) (I : Ins F) : Vec F S1x512x1x64 .f32 := rd I 2 (Rect.unit (s := S2x512x8x64) (k0_off5 c) S1x512x1x64.size (k0_off5_inb c)).toLoadRect
def v109 (c : Dev nD) (I : Ins F) : Vec F S1x512x1x64 .f32 := rd I 3 (Rect.unit (s := S2x512x8x64) (k0_off5 c) S1x512x1x64.size (k0_off5_inb c)).toLoadRect
def v81 (c : Dev nD) (I : Ins F) : IVec S256x512 1 := k0_pay8 (v55 c I) (v58 c I) (v77 c I) (c1_i32_27 c I)
def v103 (c : Dev nD) (I : Ins F) : FVec F S256x64 .f32 := k0_pay9 (v28 c I) (v55 c I) (v58 c I) (v77 c I) (c1_i32_27 c I) (v84 c I) (v87 c I)
def v110 (c : Dev nD) (I : Ins F) : FVec F S512x64 .f32 := k0_pay10 (v109 c I)
def v115 (c : Dev nD) (I : Ins F) : FVec F S256x512 .f32 := k0_pay11 (v28 c I) (v55 c I) (v58 c I) (v77 c I) (c1_i32_27 c I) (v106 c I)

/-! Part 4 of the body. -/

def v128 (c : Dev nD) (I : Ins F) : Vec F S1x512x1x64 .f32 := rd I 2 (Rect.unit (s := S2x512x8x64) (k0_off6 c) S1x512x1x64.size (k0_off6_inb c)).toLoadRect
def v131 (c : Dev nD) (I : Ins F) : Vec F S1x512x1x64 .f32 := rd I 3 (Rect.unit (s := S2x512x8x64) (k0_off6 c) S1x512x1x64.size (k0_off6_inb c)).toLoadRect
def v150 (c : Dev nD) (I : Ins F) : Vec F S1x512x1x64 .f32 := rd I 2 (Rect.unit (s := S2x512x8x64) (k0_off7 c) S1x512x1x64.size (k0_off7_inb c)).toLoadRect
def v153 (c : Dev nD) (I : Ins F) : Vec F S1x512x1x64 .f32 := rd I 3 (Rect.unit (s := S2x512x8x64) (k0_off7 c) S1x512x1x64.size (k0_off7_inb c)).toLoadRect
def cst_67 (c : Dev nD) (I : Ins F) : FVec F S256x512 .f32 := constant S256x512 .f32 0x00000000#32
def v125 (c : Dev nD) (I : Ins F) : FVec F S256x64 .f32 := k0_pay12 (v110 c I) (v115 c I)
def v147 (c : Dev nD) (I : Ins F) : FVec F S256x64 .f32 := k0_pay13 (v28 c I) (v81 c I) (v128 c I) (v131 c I)
def v148 (c : Dev nD) (I : Ins F) : FVec F S256x64 .f32 := k0_pay14 (v28 c I)
def v151 (c : Dev nD) (I : Ins F) : FVec F S512x64 .f32 := k0_pay15 (v150 c I)
def v154 (c : Dev nD) (I : Ins F) : FVec F S512x64 .f32 := k0_pay16 (v153 c I)

/-! Part 5 of the body. -/

def v172 (c : Dev nD) (I : Ins F) : Vec F S1x512x1x64 .f32 := rd I 2 (Rect.unit (s := S2x512x8x64) (k0_off8 c) S1x512x1x64.size (k0_off8_inb c)).toLoadRect
def v175 (c : Dev nD) (I : Ins F) : Vec F S1x512x1x64 .f32 := rd I 3 (Rect.unit (s := S2x512x8x64) (k0_off8 c) S1x512x1x64.size (k0_off8_inb c)).toLoadRect
def v194 (c : Dev nD) (I : Ins F) : Vec F S1x512x1x64 .f32 := rd I 2 (Rect.unit (s := S2x512x8x64) (k0_off9 c) S1x512x1x64.size (k0_off9_inb c)).toLoadRect
def v169 (c : Dev nD) (I : Ins F) : FVec F S256x64 .f32 := k0_pay17 (v81 c I) (v148 c I) (v151 c I) (v154 c I) (cst_67 c I)
def v191 (c : Dev nD) (I : Ins F) : FVec F S256x64 .f32 := k0_pay18 (v28 c I) (v81 c I) (v172 c I) (v175 c I)
def v192 (c : Dev nD) (I : Ins F) : FVec F S256x64 .f32 := k0_pay19 (v28 c I)

/-! Part 6 of the body. -/

def v197 (c : Dev nD) (I : Ins F) : Vec F S1x512x1x64 .f32 := rd I 3 (Rect.unit (s := S2x512x8x64) (k0_off9 c) S1x512x1x64.size (k0_off9_inb c)).toLoadRect
def v216 (c : Dev nD) (I : Ins F) : Vec F S1x512x1x64 .f32 := rd I 2 (Rect.unit (s := S2x512x8x64) (k0_off10 c) S1x512x1x64.size (k0_off10_inb c)).toLoadRect
def v219 (c : Dev nD) (I : Ins F) : Vec F S1x512x1x64 .f32 := rd I 3 (Rect.unit (s := S2x512x8x64) (k0_off10 c) S1x512x1x64.size (k0_off10_inb c)).toLoadRect
def v213 (c : Dev nD) (I : Ins F) : FVec F S256x64 .f32 := k0_pay20 (v81 c I) (v192 c I) (v194 c I) (v197 c I)
def v220 (c : Dev nD) (I : Ins F) : FVec F S512x64 .f32 := k0_pay21 (v219 c I)
def v234 (c : Dev nD) (I : Ins F) : FVec F S256x512 .f32 := k0_pay22 (v28 c I) (v81 c I) (v216 c I)

/-! Part 7 of the body. -/

def v238 (c : Dev nD) (I : Ins F) : Vec F S1x512x1x64 .f32 := rd I 2 (Rect.unit (s := S2x512x8x64) (k0_off11 c) S1x512x1x64.size (k0_off11_inb c)).toLoadRect
def v241 (c : Dev nD) (I : Ins F) : Vec F S1x512x1x64 .f32 := rd I 3 (Rect.unit (s := S2x512x8x64) (k0_off11 c) S1x512x1x64.size (k0_off11_inb c)).toLoadRect
def c1_i32_125 (c : Dev nD) (I : Ins F) : BitVec 32 := 1#32

/-! Part 8 of the body. -/

def v291 (c : Dev nD) (I : Ins F) : BitVec 32 := Scalar.addi (v2 c I) 1#32
def v292 (c : Dev nD) (I : Ins F) : BitVec 32 := Scalar.remsi (v291 c I) 4#32
def v293 (c : Dev nD) (I : Ins F) : BitVec 32 := Scalar.divsi (v292 c I) 2#32
def v298 (c : Dev nD) (I : Ins F) : Vec F S1x256x768 .f32 := rd I 0 (Rect.unit (s := S2x512x768) (k0_off14 c 1#32) S1x256x768.size (k0_off14_inb c 0)).toLoadRect
def v300 (c : Dev nD) (I : Ins F) : FVec F S256x512 .f32 := k0_pay26 (v16 c I) (v298 c I)
def v303 (c : Dev nD) (I : Ins F) : IVec S256x512 32 := k0_pay27 (v2 c I)
def c64_i32_147 (c : Dev nD) (I : Ins F) : BitVec 32 := 64#32
def v305 (c : Dev nD) (I : Ins F) : IVec S256x512 32 := k0_pay28 (v2 c I)
def c0_i32_148 (c : Dev nD) (I : Ins F) : BitVec 32 := 0#32

/-! Part 9 of the body. -/

def v353 (c : Dev nD) (I : Ins F) : IVec S256x512 1 := k0_pay29 (v303 c I) (c64_i32_147 c I) (v305 c I) (c0_i32_148 c I)

/-! Part 10 of the body. -/

def v356 (c : Dev nD) (I : Ins F) : Vec F S1x512x1x64 .f32 := rd I 2 (Rect.unit (s := S2x512x8x64) (k0_off15 c 1#32) S1x512x1x64.size (k0_off15_inb c 0)).toLoadRect
def v359 (c : Dev nD) (I : Ins F) : Vec F S1x512x1x64 .f32 := rd I 3 (Rect.unit (s := S2x512x8x64) (k0_off15 c 1#32) S1x512x1x64.size (k0_off15_inb c 0)).toLoadRect
def v378 (c : Dev nD) (I : Ins F) : Vec F S1x512x1x64 .f32 := rd I 2 (Rect.unit (s := S2x512x8x64) (k0_off16 c 1#32) S1x512x1x64.size (k0_off16_inb c 0)).toLoadRect
def v381 (c : Dev nD) (I : Ins F) : Vec F S1x512x1x64 .f32 := rd I 3 (Rect.unit (s := S2x512x8x64) (k0_off16 c 1#32) S1x512x1x64.size (k0_off16_inb c 0)).toLoadRect
def v375 (c : Dev nD) (I : Ins F) : FVec F S256x64 .f32 := k0_pay30 (v300 c I) (v353 c I) (v356 c I) (v359 c I)
def v382 (c : Dev nD) (I : Ins F) : FVec F S512x64 .f32 := k0_pay31 (v381 c I)
def v391 (c : Dev nD) (I : Ins F) : FVec F S256x512 .f32 := k0_pay32 (v300 c I) (v353 c I) (v378 c I)

/-! Part 11 of the body. -/

def v400 (c : Dev nD) (I : Ins F) : Vec F S1x512x1x64 .f32 := rd I 2 (Rect.unit (s := S2x512x8x64) (k0_off17 c 1#32) S1x512x1x64.size (k0_off17_inb c 0)).toLoadRect
def v403 (c : Dev nD) (I : Ins F) : Vec F S1x512x1x64 .f32 := rd I 3 (Rect.unit (s := S2x512x8x64) (k0_off17 c 1#32) S1x512x1x64.size (k0_off17_inb c 0)).toLoadRect
def v422 (c : Dev nD) (I : Ins F) : Vec F S1x512x1x64 .f32 := rd I 2 (Rect.unit (s := S2x512x8x64) (k0_off18 c 1#32) S1x512x1x64.size (k0_off18_inb c 0)).toLoadRect
def v425 (c : Dev nD) (I : Ins F) : Vec F S1x512x1x64 .f32 := rd I 3 (Rect.unit (s := S2x512x8x64) (k0_off18 c 1#32) S1x512x1x64.size (k0_off18_inb c 0)).toLoadRect
def v397 (c : Dev nD) (I : Ins F) : FVec F S256x64 .f32 := k0_pay33 (v382 c I) (v391 c I)
def v419 (c : Dev nD) (I : Ins F) : FVec F S256x64 .f32 := k0_pay34 (v300 c I) (v353 c I) (v400 c I) (v403 c I)
def v426 (c : Dev nD) (I : Ins F) : FVec F S512x64 .f32 := k0_pay35 (v425 c I)
def v429 (c : Dev nD) (I : Ins F) : FVec F S256x512 .f32 := k0_pay36 (v300 c I) (v422 c I)

/-! Part 12 of the body. -/

def v444 (c : Dev nD) (I : Ins F) : Vec F S1x512x1x64 .f32 := rd I 2 (Rect.unit (s := S2x512x8x64) (k0_off19 c 1#32) S1x512x1x64.size (k0_off19_inb c 0)).toLoadRect
def v447 (c : Dev nD) (I : Ins F) : Vec F S1x512x1x64 .f32 := rd I 3 (Rect.unit (s := S2x512x8x64) (k0_off19 c 1#32) S1x512x1x64.size (k0_off19_inb c 0)).toLoadRect
def v466 (c : Dev nD) (I : Ins F) : Vec F S1x512x1x64 .f32 := rd I 2 (Rect.unit (s := S2x512x8x64) (k0_off20 c 1#32) S1x512x1x64.size (k0_off20_inb c 0)).toLoadRect
def v441 (c : Dev nD) (I : Ins F) : FVec F S256x64 .f32 := k0_pay37 (v353 c I) (v426 c I) (v429 c I)
def v463 (c : Dev nD) (I : Ins F) : FVec F S256x64 .f32 := k0_pay38 (v300 c I) (v353 c I) (v444 c I) (v447 c I)
def v464 (c : Dev nD) (I : Ins F) : FVec F S256x64 .f32 := k0_pay39 (v300 c I)
def v467 (c : Dev nD) (I : Ins F) : FVec F S512x64 .f32 := k0_pay40 (v466 c I)

/-! Part 13 of the body. -/

def v469 (c : Dev nD) (I : Ins F) : Vec F S1x512x1x64 .f32 := rd I 3 (Rect.unit (s := S2x512x8x64) (k0_off20 c 1#32) S1x512x1x64.size (k0_off20_inb c 0)).toLoadRect
def v488 (c : Dev nD) (I : Ins F) : Vec F S1x512x1x64 .f32 := rd I 2 (Rect.unit (s := S2x512x8x64) (k0_off21 c 1#32) S1x512x1x64.size (k0_off21_inb c 0)).toLoadRect
def v491 (c : Dev nD) (I : Ins F) : Vec F S1x512x1x64 .f32 := rd I 3 (Rect.unit (s := S2x512x8x64) (k0_off21 c 1#32) S1x512x1x64.size (k0_off21_inb c 0)).toLoadRect
def v485 (c : Dev nD) (I : Ins F) : FVec F S256x64 .f32 := k0_pay41 (v353 c I) (v464 c I) (v467 c I) (v469 c I)
def v507 (c : Dev nD) (I : Ins F) : FVec F S256x64 .f32 := k0_pay42 (v300 c I) (v353 c I) (v488 c I) (v491 c I)
def v508 (c : Dev nD) (I : Ins F) : FVec F S256x64 .f32 := k0_pay43 (v300 c I)

/-! Part 14 of the body. -/

def v510 (c : Dev nD) (I : Ins F) : Vec F S1x512x1x64 .f32 := rd I 2 (Rect.unit (s := S2x512x8x64) (k0_off22 c 1#32) S1x512x1x64.size (k0_off22_inb c 0)).toLoadRect
def v513 (c : Dev nD) (I : Ins F) : Vec F S1x512x1x64 .f32 := rd I 3 (Rect.unit (s := S2x512x8x64) (k0_off22 c 1#32) S1x512x1x64.size (k0_off22_inb c 0)).toLoadRect
def v543 (c : Dev nD) (I : Ins F) : BitVec 32 := Scalar.addi (v2 c I) 4#32
def v544 (c : Dev nD) (I : Ins F) : BitVec 32 := Scalar.subi (v543 c I) 1#32
def v545 (c : Dev nD) (I : Ins F) : BitVec 32 := Scalar.remsi (v544 c I) 4#32
def v546 (c : Dev nD) (I : Ins F) : BitVec 32 := Scalar.divsi (v545 c I) 2#32

/-! Part 15 of the body. -/

def v551 (c : Dev nD) (I : Ins F) : Vec F S1x256x768 .f32 := rd I 0 (Rect.unit (s := S2x512x768) (k0_off24 c) S1x256x768.size (k0_off24_inb c)).toLoadRect
def v581 (c : Dev nD) (I : Ins F) : IVec S256x512 32 := iota .tc S256x512 32 [1] iota_S256x512_d1_w32
def v591 (c : Dev nD) (I : Ins F) : BitVec 1 := Scalar.cmpi .sgt 64#32 0#32
def v553 (c : Dev nD) (I : Ins F) : FVec F S256x512 .f32 := k0_pay47 (v16 c I) (v551 c I)
def v580 (c : Dev nD) (I : Ins F) : IVec S256x512 32 := k0_pay48 (v545 c I)
def c64_i32_277 (c : Dev nD) (I : Ins F) : BitVec 32 := 64#32
def v583 (c : Dev nD) (I : Ins F) : IVec S256x512 32 := k0_pay49
def v590 (c : Dev nD) (I : Ins F) : IVec S256x512 32 := k0_pay50

/-! Part 16 of the body. -/

def v609 (c : Dev nD) (I : Ins F) : Vec F S1x512x1x64 .f32 := rd I 2 (Rect.unit (s := S2x512x8x64) (k0_off25 c) S1x512x1x64.size (k0_off25_inb c)).toLoadRect
def v612 (c : Dev nD) (I : Ins F) : Vec F S1x512x1x64 .f32 := rd I 3 (Rect.unit (s := S2x512x8x64) (k0_off25 c) S1x512x1x64.size (k0_off25_inb c)).toLoadRect
def v631 (c : Dev nD) (I : Ins F) : Vec F S1x512x1x64 .f32 := rd I 2 (Rect.unit (s := S2x512x8x64) (k0_off26 c) S1x512x1x64.size (k0_off26_inb c)).toLoadRect
def v606 (c : Dev nD) (I : Ins F) : IVec S256x512 1 := k0_pay51 (v580 c I) (v581 c I) (c64_i32_277 c I) (v583 c I) (v590 c I) (v591 c I)
def v628 (c : Dev nD) (I : Ins F) : FVec F S256x64 .f32 := k0_pay52 (v553 c I) (v580 c I) (v581 c I) (c64_i32_277 c I) (v583 c I) (v590 c I) (v591 c I) (v609 c I) (v612 c I)
def v629 (c : Dev nD) (I : Ins F) : FVec F S256x64 .f32 := k0_pay53 (v553 c I)
def v632 (c : Dev nD) (I : Ins F) : FVec F S512x64 .f32 := k0_pay54 (v631 c I)

/-! Part 17 of the body. -/

def v634 (c : Dev nD) (I : Ins F) : Vec F S1x512x1x64 .f32 := rd I 3 (Rect.unit (s := S2x512x8x64) (k0_off26 c) S1x512x1x64.size (k0_off26_inb c)).toLoadRect
def v653 (c : Dev nD) (I : Ins F) : Vec F S1x512x1x64 .f32 := rd I 2 (Rect.unit (s := S2x512x8x64) (k0_off27 c) S1x512x1x64.size (k0_off27_inb c)).toLoadRect
def v656 (c : Dev nD) (I : Ins F) : Vec F S1x512x1x64 .f32 := rd I 3 (Rect.unit (s := S2x512x8x64) (k0_off27 c) S1x512x1x64.size (k0_off27_inb c)).toLoadRect
def v650 (c : Dev nD) (I : Ins F) : FVec F S256x64 .f32 := k0_pay55 (v606 c I) (v629 c I) (v632 c I) (v634 c I)
def v672 (c : Dev nD) (I : Ins F) : FVec F S256x64 .f32 := k0_pay56 (v553 c I) (v606 c I) (v653 c I) (v656 c I)

/-! Part 18 of the body. -/

def v675 (c : Dev nD) (I : Ins F) : Vec F S1x512x1x64 .f32 := rd I 2 (Rect.unit (s := S2x512x8x64) (k0_off28 c) S1x512x1x64.size (k0_off28_inb c)).toLoadRect
def v678 (c : Dev nD) (I : Ins F) : Vec F S1x512x1x64 .f32 := rd I 3 (Rect.unit (s := S2x512x8x64) (k0_off28 c) S1x512x1x64.size (k0_off28_inb c)).toLoadRect
def v697 (c : Dev nD) (I : Ins F) : Vec F S1x512x1x64 .f32 := rd I 2 (Rect.unit (s := S2x512x8x64) (k0_off29 c) S1x512x1x64.size (k0_off29_inb c)).toLoadRect
def v700 (c : Dev nD) (I : Ins F) : Vec F S1x512x1x64 .f32 := rd I 3 (Rect.unit (s := S2x512x8x64) (k0_off29 c) S1x512x1x64.size (k0_off29_inb c)).toLoadRect
def v694 (c : Dev nD) (I : Ins F) : FVec F S256x64 .f32 := k0_pay57 (v553 c I) (v606 c I) (v675 c I) (v678 c I)
def v701 (c : Dev nD) (I : Ins F) : FVec F S512x64 .f32 := k0_pay58 (v700 c I)
def v710 (c : Dev nD) (I : Ins F) : FVec F S256x512 .f32 := k0_pay59 (v553 c I) (v606 c I) (v697 c I)

/-! Part 19 of the body. -/

def v719 (c : Dev nD) (I : Ins F) : Vec F S1x512x1x64 .f32 := rd I 2 (Rect.unit (s := S2x512x8x64) (k0_off30 c) S1x512x1x64.size (k0_off30_inb c)).toLoadRect
def v722 (c : Dev nD) (I : Ins F) : Vec F S1x512x1x64 .f32 := rd I 3 (Rect.unit (s := S2x512x8x64) (k0_off30 c) S1x512x1x64.size (k0_off30_inb c)).toLoadRect
def v741 (c : Dev nD) (I : Ins F) : Vec F S1x512x1x64 .f32 := rd I 2 (Rect.unit (s := S2x512x8x64) (k0_off31 c) S1x512x1x64.size (k0_off31_inb c)).toLoadRect
def v744 (c : Dev nD) (I : Ins F) : Vec F S1x512x1x64 .f32 := rd I 3 (Rect.unit (s := S2x512x8x64) (k0_off31 c) S1x512x1x64.size (k0_off31_inb c)).toLoadRect
def v716 (c : Dev nD) (I : Ins F) : FVec F S256x64 .f32 := k0_pay60 (v701 c I) (v710 c I)
def v738 (c : Dev nD) (I : Ins F) : FVec F S256x64 .f32 := k0_pay61 (v553 c I) (v606 c I) (v719 c I) (v722 c I)
def v745 (c : Dev nD) (I : Ins F) : FVec F S512x64 .f32 := k0_pay62 (v744 c I)
def v748 (c : Dev nD) (I : Ins F) : FVec F S256x512 .f32 := k0_pay63 (v553 c I) (v741 c I)

/-! Part 20 of the body. -/

def v763 (c : Dev nD) (I : Ins F) : Vec F S1x512x1x64 .f32 := rd I 2 (Rect.unit (s := S2x512x8x64) (k0_off32 c) S1x512x1x64.size (k0_off32_inb c)).toLoadRect
def v766 (c : Dev nD) (I : Ins F) : Vec F S1x512x1x64 .f32 := rd I 3 (Rect.unit (s := S2x512x8x64) (k0_off32 c) S1x512x1x64.size (k0_off32_inb c)).toLoadRect
def v785 (c : Dev nD) (I : Ins F) : FVec F S256x768 .bf16 := k0_pay64 (v20 c I) (v553 c I) (v606 c I) (v628 c I) (v650 c I) (v672 c I) (v694 c I) (v716 c I) (v738 c I) (v745 c I) (v748 c I) (v763 c I) (v766 c I)
def v786 (c : Dev nD) (I : Ins F) : FVec F S128x768 .bf16 := k0_pay65 (v20 c I) (v553 c I) (v606 c I) (v628 c I) (v650 c I) (v672 c I) (v694 c I) (v716 c I) (v738 c I) (v745 c I) (v748 c I) (v763 c I) (v766 c I)

/-! Part 23 of the body. -/

def v857 (c : Dev nD) (I : Ins F) : BitVec 32 := Scalar.addi (v2 c I) 2#32
def v858 (c : Dev nD) (I : Ins F) : BitVec 32 := Scalar.remsi (v857 c I) 4#32
def v859 (c : Dev nD) (I : Ins F) : BitVec 32 := Scalar.divsi (v858 c I) 2#32
def v864 (c : Dev nD) (I : Ins F) : Vec F S1x256x768 .f32 := rd I 0 (Rect.unit (s := S2x512x768) (k0_off14 c 2#32) S1x256x768.size (k0_off14_inb c 1)).toLoadRect
def v866 (c : Dev nD) (I : Ins F) : FVec F S256x512 .f32 := k0_pay70 (v16 c I) (v864 c I)
def v871 (c : Dev nD) (I : Ins F) : IVec S256x512 32 := k0_pay72 (v2 c I)
def v890 (c : Dev nD) (I : Ins F) : IVec S256x512 1 := k0_pay73 (v2 c I)
def c1_i32_453 (c : Dev nD) (I : Ins F) : BitVec 32 := 1#32

/-! Part 24 of the body. -/

def v922 (c : Dev nD) (I : Ins F) : Vec F S1x512x1x64 .f32 := rd I 2 (Rect.unit (s := S2x512x8x64) (k0_off15 c 2#32) S1x512x1x64.size (k0_off15_inb c 1)).toLoadRect
def v925 (c : Dev nD) (I : Ins F) : Vec F S1x512x1x64 .f32 := rd I 3 (Rect.unit (s := S2x512x8x64) (k0_off15 c 2#32) S1x512x1x64.size (k0_off15_inb c 1)).toLoadRect
def v919 (c : Dev nD) (I : Ins F) : IVec S256x512 1 := k0_pay74 (v871 c I) (v890 c I) (c1_i32_453 c I)
def v926 (c : Dev nD) (I : Ins F) : FVec F S512x64 .f32 := k0_pay75 (v925 c I)
def v931 (c : Dev nD) (I : Ins F) : FVec F S256x512 .f32 := k0_pay76 (v866 c I) (v871 c I) (v890 c I) (c1_i32_453 c I) (v922 c I)
def v933 (c : Dev nD) (I : Ins F) : FVec F S256x1 .f32 := k0_pay77 (v866 c I) (v871 c I) (v890 c I) (c1_i32_453 c I) (v922 c I)

/-! Part 25 of the body. -/

def v944 (c : Dev nD) (I : Ins F) : Vec F S1x512x1x64 .f32 := rd I 2 (Rect.unit (s := S2x512x8x64) (k0_off16 c 2#32) S1x512x1x64.size (k0_off16_inb c 1)).toLoadRect
def v947 (c : Dev nD) (I : Ins F) : Vec F S1x512x1x64 .f32 := rd I 3 (Rect.unit (s := S2x512x8x64) (k0_off16 c 2#32) S1x512x1x64.size (k0_off16_inb c 1)).toLoadRect
def v966 (c : Dev nD) (I : Ins F) : Vec F S1x512x1x64 .f32 := rd I 2 (Rect.unit (s := S2x512x8x64) (k0_off17 c 2#32) S1x512x1x64.size (k0_off17_inb c 1)).toLoadRect
def v969 (c : Dev nD) (I : Ins F) : Vec F S1x512x1x64 .f32 := rd I 3 (Rect.unit (s := S2x512x8x64) (k0_off17 c 2#32) S1x512x1x64.size (k0_off17_inb c 1)).toLoadRect
def cst_492 (c : Dev nD) (I : Ins F) : F .f32 := Scalar.ofBits .f32 0x3E000000#32
def v941 (c : Dev nD) (I : Ins F) : FVec F S256x64 .f32 := k0_pay78 (v926 c I) (v931 c I) (v933 c I)
def v963 (c : Dev nD) (I : Ins F) : FVec F S256x64 .f32 := k0_pay79 (v866 c I) (v919 c I) (v944 c I) (v947 c I)
def v970 (c : Dev nD) (I : Ins F) : FVec F S512x64 .f32 := k0_pay80 (v969 c I)
def v971 (c : Dev nD) (I : Ins F) : FVec F S256x512 .f32 := k0_pay81 (v866 c I) (v966 c I)

/-! Part 26 of the body. -/

def v988 (c : Dev nD) (I : Ins F) : Vec F S1x512x1x64 .f32 := rd I 2 (Rect.unit (s := S2x512x8x64) (k0_off18 c 2#32) S1x512x1x64.size (k0_off18_inb c 1)).toLoadRect
def v991 (c : Dev nD) (I : Ins F) : Vec F S1x512x1x64 .f32 := rd I 3 (Rect.unit (s := S2x512x8x64) (k0_off18 c 2#32) S1x512x1x64.size (k0_off18_inb c 1)).toLoadRect
def v1010 (c : Dev nD) (I : Ins F) : Vec F S1x512x1x64 .f32 := rd I 2 (Rect.unit (s := S2x512x8x64) (k0_off19 c 2#32) S1x512x1x64.size (k0_off19_inb c 1)).toLoadRect
def v985 (c : Dev nD) (I : Ins F) : FVec F S256x64 .f32 := k0_pay82 (v919 c I) (v970 c I) (v971 c I) (cst_492 c I)
def v1007 (c : Dev nD) (I : Ins F) : FVec F S256x64 .f32 := k0_pay83 (v866 c I) (v919 c I) (v988 c I) (v991 c I)
def v1008 (c : Dev nD) (I : Ins F) : FVec F S256x64 .f32 := k0_pay84 (v866 c I)
def v1011 (c : Dev nD) (I : Ins F) : FVec F S512x64 .f32 := k0_pay85 (v1010 c I)

/-! Part 27 of the body. -/

def v1013 (c : Dev nD) (I : Ins F) : Vec F S1x512x1x64 .f32 := rd I 3 (Rect.unit (s := S2x512x8x64) (k0_off19 c 2#32) S1x512x1x64.size (k0_off19_inb c 1)).toLoadRect
def v1032 (c : Dev nD) (I : Ins F) : Vec F S1x512x1x64 .f32 := rd I 2 (Rect.unit (s := S2x512x8x64) (k0_off20 c 2#32) S1x512x1x64.size (k0_off20_inb c 1)).toLoadRect
def v1035 (c : Dev nD) (I : Ins F) : Vec F S1x512x1x64 .f32 := rd I 3 (Rect.unit (s := S2x512x8x64) (k0_off20 c 2#32) S1x512x1x64.size (k0_off20_inb c 1)).toLoadRect
def v1029 (c : Dev nD) (I : Ins F) : FVec F S256x64 .f32 := k0_pay86 (v919 c I) (v1008 c I) (v1011 c I) (v1013 c I)
def v1051 (c : Dev nD) (I : Ins F) : FVec F S256x64 .f32 := k0_pay87 (v866 c I) (v919 c I) (v1032 c I) (v1035 c I)

/-! Part 28 of the body. -/

def v1054 (c : Dev nD) (I : Ins F) : Vec F S1x512x1x64 .f32 := rd I 2 (Rect.unit (s := S2x512x8x64) (k0_off21 c 2#32) S1x512x1x64.size (k0_off21_inb c 1)).toLoadRect
def v1057 (c : Dev nD) (I : Ins F) : Vec F S1x512x1x64 .f32 := rd I 3 (Rect.unit (s := S2x512x8x64) (k0_off21 c 2#32) S1x512x1x64.size (k0_off21_inb c 1)).toLoadRect
def v1076 (c : Dev nD) (I : Ins F) : Vec F S1x512x1x64 .f32 := rd I 2 (Rect.unit (s := S2x512x8x64) (k0_off22 c 2#32) S1x512x1x64.size (k0_off22_inb c 1)).toLoadRect
def v1079 (c : Dev nD) (I : Ins F) : Vec F S1x512x1x64 .f32 := rd I 3 (Rect.unit (s := S2x512x8x64) (k0_off22 c 2#32) S1x512x1x64.size (k0_off22_inb c 1)).toLoadRect
def v1073 (c : Dev nD) (I : Ins F) : FVec F S256x64 .f32 := k0_pay88 (v866 c I) (v919 c I) (v1054 c I) (v1057 c I)
def v1080 (c : Dev nD) (I : Ins F) : FVec F S512x64 .f32 := k0_pay89 (v1079 c I)
def v1089 (c : Dev nD) (I : Ins F) : FVec F S256x512 .f32 := k0_pay90 (v866 c I) (v919 c I) (v1076 c I)

/-! Part 29 of the body. -/

def v1117 (c : Dev nD) (I : Ins F) : BitVec 32 := Scalar.addi (v2 c I) 4#32
def v1118 (c : Dev nD) (I : Ins F) : BitVec 32 := Scalar.subi (v1117 c I) 2#32
def v1119 (c : Dev nD) (I : Ins F) : BitVec 32 := Scalar.remsi (v1118 c I) 4#32

end Val

open Val in
/-- The half of device `c`'s partial product of the chunk `k` places after its own that direction `d` carries. -/
def part (I : Dev nD → Ins F) (d : Bool) (c : Dev nD) (k : ℕ) : Vec F S1x128x768 .bf16 :=
  match k with
  | 0 => if d then k0_pay25 (v20 c (I c)) (v28 c (I c)) (v81 c (I c)) (v103 c (I c)) (v125 c (I c)) (v147 c (I c)) (v169 c (I c)) (v191 c (I c)) (v213 c (I c)) (v220 c (I c)) (v234 c (I c)) (v238 c (I c)) (v241 c (I c))
    else k0_pay24 (v20 c (I c)) (v28 c (I c)) (v81 c (I c)) (v103 c (I c)) (v125 c (I c)) (v147 c (I c)) (v169 c (I c)) (v191 c (I c)) (v213 c (I c)) (v220 c (I c)) (v234 c (I c)) (v238 c (I c)) (v241 c (I c))
  | 1 => if d then k0_pay46 (v20 c (I c)) (v353 c (I c)) (v375 c (I c)) (v397 c (I c)) (v419 c (I c)) (v441 c (I c)) (v463 c (I c)) (v485 c (I c)) (v507 c (I c)) (v508 c (I c)) (v510 c (I c)) (v513 c (I c))
    else k0_pay45 (v20 c (I c)) (v353 c (I c)) (v375 c (I c)) (v397 c (I c)) (v419 c (I c)) (v441 c (I c)) (v463 c (I c)) (v485 c (I c)) (v507 c (I c)) (v508 c (I c)) (v510 c (I c)) (v513 c (I c))
  | 2 => if d then k0_pay93 (v20 c (I c)) (v941 c (I c)) (v963 c (I c)) (v985 c (I c)) (v1007 c (I c)) (v1029 c (I c)) (v1051 c (I c)) (v1073 c (I c)) (v1080 c (I c)) (v1089 c (I c))
    else k0_pay92 (v20 c (I c)) (v941 c (I c)) (v963 c (I c)) (v985 c (I c)) (v1007 c (I c)) (v1029 c (I c)) (v1051 c (I c)) (v1073 c (I c)) (v1080 c (I c)) (v1089 c (I c))
  | _ => if d then k0_pay67 (v785 c (I c))
    else k0_pay66 (v786 c (I c))

end Cert.KernelIdeal.Run

end
-- ==== Proof.KernelIdeal.ReadParts.lean ====
/-
The parts of the body that only read the inputs, each by the values it returns; and the body's arguments.
-/
module

public import proofs.«01_k».proof.Proof.KernelIdeal.Vals

@[expose] public section

noncomputable section

namespace Cert.KernelIdeal.Run

open Cert.KernelIdeal Cert.KernelIdeal.Gen

open Idealize.ShloMosaic
open Idealize.ShloMosaic.TcCoe
open Idealize.SL Idealize.SL.Sem

variable {F : FTy → Type} [FloatOps F]

/-- A function of the body's arguments, at the buffers and the semaphores the launch passes. -/
abbrev on {β : Type 1} (f : (arg0 : Memref sig .tc .vmem S2x512x768 .f32) → (harg0 : arg0.IsWhole) → (arg1 : Memref sig .tc .vmem S768x2048 .f32) → (harg1 : arg1.IsWhole) → (arg2 : Memref sig .tc .vmem S2x512x8x64 .f32) → (harg2 : arg2.IsWhole) → (arg3 : Memref sig .tc .vmem S2x512x8x64 .f32) → (harg3 : arg3.IsWhole) → (arg4 : Memref sig .tc .vmem S2048x768 .f32) → (harg4 : arg4.IsWhole) → (arg5 : Memref sig .tc .vmem S2x512x768 .f32) → (harg5 : arg5.IsWhole) → (arg6 : Memref sig .tc .vmem S4x128x768 .bf16) → (harg6 : arg6.IsWhole) → (arg7 : Memref sig .tc .vmem S4x128x768 .bf16) → (harg7 : arg7.IsWhole) → (arg8 : Memref sig .tc .vmem S6x128x768 .bf16) → (harg8 : arg8.IsWhole) → (arg9 : Memref sig .tc .vmem S6x128x768 .bf16) → (harg9 : arg9.IsWhole) → (arg10 : DmaSems sig S6) → (arg11 : DmaSems sig S6) → (arg12 : DmaSems sig S6) → (arg13 : DmaSems sig S6) → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

section
open Val
variable (c : Dev nD) (I : Ins F)

theorem reads2 : Reads I (on k0_part2 (v31 c I))
    (.ret ⟨v55 c I, v58 c I, v77 c I, c1_i32_27 c I⟩) := by
  rw [k0_part2_eq_skeleton]; exact .refl
theorem reads3 : Reads I (on k0_part3 c (v21 c I) (v28 c I) (v55 c I) (v58 c I) (v77 c I) (c1_i32_27 c I))
    (.ret ⟨v81 c I, v103 c I, v110 c I, v115 c I⟩) := by
  rw [k0_part3_eq_skeleton]; exact .load 2 (.load 3 (.load 2 (.load 3 .refl)))
theorem reads4 : Reads I (on k0_part4 c (v21 c I) (v28 c I) (v81 c I) (v110 c I) (v115 c I))
    (.ret ⟨v125 c I, v147 c I, v148 c I, v151 c I, v154 c I, cst_67 c I⟩) := by
  rw [k0_part4_eq_skeleton]; exact .load 2 (.load 3 (.load 2 (.load 3 .refl)))
theorem reads5 : Reads I (on k0_part5 c (v21 c I) (v28 c I) (v81 c I) (v148 c I) (v151 c I) (v154 c I) (cst_67 c I))
    (.ret ⟨v169 c I, v191 c I, v192 c I, v194 c I⟩) := by
  rw [k0_part5_eq_skeleton]; exact .load 2 (.load 3 (.load 2 .refl))
theorem reads6 : Reads I (on k0_part6 c (v21 c I) (v28 c I) (v81 c I) (v192 c I) (v194 c I))
    (.ret ⟨v213 c I, v220 c I, v234 c I⟩) := by
  rw [k0_part6_eq_skeleton]; exact .load 3 (.load 2 (.load 3 .refl))
theorem reads9 : Reads I (on k0_part9 (v303 c I) (c64_i32_147 c I) (v305 c I) (c0_i32_148 c I))
    (.ret (v353 c I)) := by
  rw [k0_part9_eq_skeleton]; exact .refl
theorem reads10 : Reads I (on k0_part10 c (v293 c I) (v300 c I) (v353 c I))
    (.ret ⟨v375 c I, v382 c I, v391 c I⟩) := by
  rw [k0_part10_eq_skeleton]; exact .load 2 (.load 3 (.load 2 (.load 3 .refl)))
theorem reads11 : Reads I (on k0_part11 c (v293 c I) (v300 c I) (v353 c I) (v382 c I) (v391 c I))
    (.ret ⟨v397 c I, v419 c I, v426 c I, v429 c I⟩) := by
  rw [k0_part11_eq_skeleton]; exact .load 2 (.load 3 (.load 2 (.load 3 .refl)))
theorem reads12 : Reads I (on k0_part12 c (v293 c I) (v300 c I) (v353 c I) (v426 c I) (v429 c I))
    (.ret ⟨v441 c I, v463 c I, v464 c I, v467 c I⟩) := by
  rw [k0_part12_eq_skeleton]; exact .load 2 (.load 3 (.load 2 .refl))
theorem reads13 : Reads I (on k0_part13 c (v293 c I) (v300 c I) (v353 c I) (v464 c I) (v467 c I))
    (.ret ⟨v485 c I, v507 c I, v508 c I⟩) := by
  rw [k0_part13_eq_skeleton]; exact .load 3 (.load 2 (.load 3 .refl))
theorem reads15 : Reads I (on k0_part15 c (v16 c I) (v545 c I) (v546 c I))
    (.ret ⟨v553 c I, v580 c I, v581 c I, c64_i32_277 c I, v583 c I, v590 c I, v591 c I⟩) := by
  rw [k0_part15_eq_skeleton]; exact .load 0 .refl
theorem reads16 : Reads I (on k0_part16 c (v546 c I) (v553 c I) (v580 c I) (v581 c I) (c64_i32_277 c I) (v583 c I) (v590 c I) (v591 c I))
    (.ret ⟨v606 c I, v628 c I, v629 c I, v632 c I⟩) := by
  rw [k0_part16_eq_skeleton]; exact .load 2 (.load 3 (.load 2 .refl))
theorem reads17 : Reads I (on k0_part17 c (v546 c I) (v553 c I) (v606 c I) (v629 c I) (v632 c I))
    (.ret ⟨v650 c I, v672 c I⟩) := by
  rw [k0_part17_eq_skeleton]; exact .load 3 (.load 2 (.load 3 .refl))
theorem reads18 : Reads I (on k0_part18 c (v546 c I) (v553 c I) (v606 c I))
    (.ret ⟨v694 c I, v701 c I, v710 c I⟩) := by
  rw [k0_part18_eq_skeleton]; exact .load 2 (.load 3 (.load 2 (.load 3 .refl)))
theorem reads19 : Reads I (on k0_part19 c (v546 c I) (v553 c I) (v606 c I) (v701 c I) (v710 c I))
    (.ret ⟨v716 c I, v738 c I, v745 c I, v748 c I⟩) := by
  rw [k0_part19_eq_skeleton]; exact .load 2 (.load 3 (.load 2 (.load 3 .refl)))
theorem reads24 : Reads I (on k0_part24 c (v859 c I) (v866 c I) (v871 c I) (v890 c I) (c1_i32_453 c I))
    (.ret ⟨v919 c I, v926 c I, v931 c I, v933 c I⟩) := by
  rw [k0_part24_eq_skeleton]; exact .load 2 (.load 3 .refl)
theorem reads25 : Reads I (on k0_part25 c (v859 c I) (v866 c I) (v919 c I) (v926 c I) (v931 c I) (v933 c I))
    (.ret ⟨v941 c I, v963 c I, v970 c I, v971 c I, cst_492 c I⟩) := by
  rw [k0_part25_eq_skeleton]; exact .load 2 (.load 3 (.load 2 (.load 3 .refl)))
theorem reads26 : Reads I (on k0_part26 c (v859 c I) (v866 c I) (v919 c I) (v970 c I) (v971 c I) (cst_492 c I))
    (.ret ⟨v985 c I, v1007 c I, v1008 c I, v1011 c I⟩) := by
  rw [k0_part26_eq_skeleton]; exact .load 2 (.load 3 (.load 2 .refl))
theorem reads27 : Reads I (on k0_part27 c (v859 c I) (v866 c I) (v919 c I) (v1008 c I) (v1011 c I))
    (.ret ⟨v1029 c I, v1051 c I⟩) := by
  rw [k0_part27_eq_skeleton]; exact .load 3 (.load 2 (.load 3 .refl))
theorem reads28 : Reads I (on k0_part28 c (v859 c I) (v866 c I) (v919 c I))
    (.ret ⟨v1073 c I, v1080 c I, v1089 c I⟩) := by
  rw [k0_part28_eq_skeleton]; exact .load 2 (.load 3 (.load 2 (.load 3 .refl)))

end

end Cert.KernelIdeal.Run

end
-- ==== Proof.KernelIdeal.Moves.lean ====
/-
Single operations of the body: the blocks it loads, stores, sends and waits for.
-/
module

public import proofs.«01_k».proof.Proof.KernelIdeal.ReadParts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What is left of the program at an operation, on device `c`. -/
abbrev go (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_fin (c : Dev nD) {α : Type} {a : α} {Q : α → sProp 𝕄} : Q a ⊢ go (F := F) c (.ret a) Q := by
  rw [go, wp_ret]; iintro H; imodintro; iexact H

/-- A block held at an array, and held at any. -/
abbrev held (c : Dev nD) {s : Shape} {e : EltTy} (M : Memref sig .tc .vmem s e) (X : s.Idx → Elt F e) : sProp 𝕄 :=
  owns (c : Thread nD τ) M fullShare X
abbrev any (c : Dev nD) {s : Shape} {e : EltTy} (M : Memref sig .tc .vmem s e) : sProp 𝕄 :=
  iprop(∃ X, owns (c : Thread nD τ) M fullShare X)

/-- The result's buffer and its blocks. -/
abbrev oM : Memref sig .tc .vmem S2x512x768 .f32 := Memref.whole cc0_stg5_0
abbrev oB (k : Fin 4) (l : Fin 2) : Memref sig .tc .vmem S1x128x768 .f32 :=
  blk oM ![k.val / 2, 256 * (k.val % 2) + 128 * l.val, 0] S1x128x768.size (inbO (k, l))

/-! ## Which block an offset of the program names -/

section Offsets
variable (c : Dev nD)

theorem o12 : k0_off12 c = ![(rel c 0).val, 0, 0] := by
  rw [k0_off12_eq]; exact congrArg (fun n : ℕ => (![n, 0, 0] : Fin 3 → ℕ)) (by revert c; decide)
theorem o13 : k0_off13 c = ![(rel c 0).val, 0, 0] := by
  rw [k0_off13_eq]; exact congrArg (fun n : ℕ => (![n, 0, 0] : Fin 3 → ℕ)) (by revert c; decide)
theorem o23 (r : Fin 3) : k0_off23 c (BitVec.ofNat 32 (1 + r.val)) = ![(rel c (1 + r.val)).val, 0, 0] := by
  rw [k0_off23_eq]; exact congrArg (fun n : ℕ => (![n, 0, 0] : Fin 3 → ℕ)) (by revert c r; decide)
theorem o33 (r : Fin 3) : k0_off33 c (BitVec.ofNat 32 (1 + r.val)) = ![(rel c (3 - r.val)).val, 0, 0] := by
  rw [k0_off33_eq]; exact congrArg (fun n : ℕ => (![n, 0, 0] : Fin 3 → ℕ)) (by revert c r; decide)
theorem o34 (r : Fin 3) : k0_off34 c (BitVec.ofNat 32 (1 + r.val)) = ![(rel c (3 - r.val)).val, 0, 0] := by
  rw [k0_off34_eq]; exact congrArg (fun n : ℕ => (![n, 0, 0] : Fin 3 → ℕ)) (by revert c r; decide)
theorem o35 (r : Fin 3) : k0_off35 c (BitVec.ofNat 32 (1 + r.val)) = ![(rel c (1 + r.val)).val, 0, 0] := by
  rw [k0_off35_eq]; exact congrArg (fun n : ℕ => (![n, 0, 0] : Fin 3 → ℕ)) (by revert c r; decide)
theorem o36 (r : Fin 3) : k0_off36 c (BitVec.ofNat 32 (1 + r.val))
    = ![(rel c (3 - r.val)).val / 2, 256 * ((rel c (3 - r.val)).val % 2) + 128 * (0 : Fin 2).val, 0] := by
  rw [k0_off36_eq]; exact congrArg₂ (fun a b : ℕ => (![a, b, 0] : Fin 3 → ℕ)) (by revert c r; decide) (by revert c r; decide)
theorem o37 (r : Fin 3) : k0_off37 c (BitVec.ofNat 32 (1 + r.val))
    = ![(rel c (1 + r.val)).val / 2, 256 * ((rel c (1 + r.val)).val % 2) + 128 * (1 : Fin 2).val, 0] := by
  rw [k0_off37_eq]; exact congrArg₂ (fun a b : ℕ => (![a, b, 0] : Fin 3 → ℕ)) (by revert c r; decide) (by revert c r; decide)
theorem o38 : k0_off38 c = ![(rel c 0).val / 2, 256 * ((rel c 0).val % 2) + 128 * (0 : Fin 2).val, 0] := by
  rw [k0_off38_eq]; exact congrArg₂ (fun a b : ℕ => (![a, b, 0] : Fin 3 → ℕ)) (by revert c; decide) (by revert c; decide)
theorem o39 : k0_off39 c = ![(rel c 0).val / 2, 256 * ((rel c 0).val % 2) + 128 * (1 : Fin 2).val, 0] := by
  rw [k0_off39_eq]; exact congrArg₂ (fun a b : ℕ => (![a, b, 0] : Fin 3 → ℕ)) (by revert c; decide) (by revert c; decide)

end Offsets

/-- A load of a block of partial products. -/
theorem getA (c : Dev nD) (d : Bool) (k : Fin 4) {off : Fin 3 → ℕ} (h : off = ![k.val, 0, 0])
    {inb : ∀ a, off a + S1x128x768.size a ≤ S4x128x768.size a} {q : PosShare TreeShare} {X : Vec F S1x128x768 .bf16}
    {hl : (aM d).view.LoadsAt (Rect.unit (s := S4x128x768) off S1x128x768.size inb).toLoadRect}
    {α : Type} {Q : α → sProp 𝕄} {kk : Vec F S1x128x768 .bf16 → Prog (TpuEff nD τ sig (Elt F) Λ₀ .tc) α} :
    (owns (c : Thread nD τ) (aB d k) q X : sProp 𝕄)
      ⊢ iprop((owns (c : Thread nD τ) (aB d k) q X -∗ go c (kk X) Q)
          -∗ go c (.op (.load (aM d) (Rect.unit (s := S4x128x768) off S1x128x768.size inb).toLoadRect hl) kk) Q) :=
  wp_load_blk c (aM d) h (inbA k)

/-- A load of a landing block. -/
theorem getC (c : Dev nD) (d : Bool) (k : Fin 6) {off : Fin 3 → ℕ} (h : off = ![k.val, 0, 0])
    {inb : ∀ a, off a + S1x128x768.size a ≤ S6x128x768.size a} {q : PosShare TreeShare} {X : Vec F S1x128x768 .bf16}
    {hl : (cM d).view.LoadsAt (Rect.unit (s := S6x128x768) off S1x128x768.size inb).toLoadRect}
    {α : Type} {Q : α → sProp 𝕄} {kk : Vec F S1x128x768 .bf16 → Prog (TpuEff nD τ sig (Elt F) Λ₀ .tc) α} :
    (owns (c : Thread nD τ) (cB d k) q X : sProp 𝕄)
      ⊢ iprop((owns (c : Thread nD τ) (cB d k) q X -∗ go c (kk X) Q)
          -∗ go c (.op (.load (cM d) (Rect.unit (s := S6x128x768) off S1x128x768.size inb).toLoadRect hl) kk) Q) :=
  wp_load_blk c (cM d) h (inbC k)

/-- A block of partial products loaded, which nothing uses, and stored. -/
theorem putA (c : Dev nD) (d : Bool) (k : Fin 4) {off : Fin 3 → ℕ} (h : off = ![k.val, 0, 0])
    {inb : ∀ a, off a + S1x128x768.size a ≤ S4x128x768.size a} {w : Vec F S1x128x768 .bf16}
    {hl : (aM d).view.LoadsAt (Rect.unit (s := S4x128x768) off S1x128x768.size inb).toLoadRect}
    {hx : ((aM d).access (Rect.unit (s := S4x128x768) off S1x128x768.size inb)).Stores Finset.univ} {hm}
    {α : Type} {Q : α → sProp 𝕄} {kk : PUnit → Prog (TpuEff nD τ sig (Elt F) Λ₀ .tc) α} :
    (any c (aB d k) : sProp 𝕄)
      ⊢ iprop((held c (aB d k) w -∗ go c (kk ⟨⟩) Q)
          -∗ go c (.op (.load (aM d) (Rect.unit (s := S4x128x768) off S1x128x768.size inb).toLoadRect hl) fun _ =>
              .op (.store (aM d) (Rect.unit (s := S4x128x768) off S1x128x768.size inb) w Finset.univ hx hm) kk) Q) := by
  iintro ⟨%X, H⟩ Hk
  iapply (wp_load_blk c (aM d) h (inbA k)) $$ H
  iintro H
  iapply (wp_store_blk c (aM d) h (inbA k)) $$ H
  iexact Hk

/-- A block of the result loaded, which nothing uses, and stored. -/
theorem putO (c : Dev nD) (k : Fin 4) (l : Fin 2) {off : Fin 3 → ℕ} (h : off = ![k.val / 2, 256 * (k.val % 2) + 128 * l.val, 0])
    {inb : ∀ a, off a + S1x128x768.size a ≤ S2x512x768.size a} {w : Vec F S1x128x768 .f32}
    {hl : oM.view.LoadsAt (Rect.unit (s := S2x512x768) off S1x128x768.size inb).toLoadRect}
    {hx : (oM.access (Rect.unit (s := S2x512x768) off S1x128x768.size inb)).Stores Finset.univ} {hm}
    {α : Type} {Q : α → sProp 𝕄} {kk : PUnit → Prog (TpuEff nD τ sig (Elt F) Λ₀ .tc) α} :
    (any c (oB k l) : sProp 𝕄)
      ⊢ iprop((held c (oB k l) w -∗ go c (kk ⟨⟩) Q)
          -∗ go c (.op (.load oM (Rect.unit (s := S2x512x768) off S1x128x768.size inb).toLoadRect hl) fun _ =>
              .op (.store oM (Rect.unit (s := S2x512x768) off S1x128x768.size inb) w Finset.univ hx hm) kk) Q) := by
  iintro ⟨%X, H⟩ Hk
  iapply (wp_load_blk c oM h (inbO (k, l))) $$ H
  iintro H
  iapply (wp_store_blk c oM h (inbO (k, l))) $$ H
  iexact Hk

/-- The copy of step `j`, the `m`-th of the kernel. -/
theorem wp_send (P : Bool → Dev nD → ℕ → Vec F S1x128x768 .bf16) (K : Dev nD × CK → ℕ) (c n : Dev nD) (j : Stp) (m : ℕ)
    (hl : order.drop m = j :: order.drop (m + 1)) (hn : n = peer j.1 c)
    {src dst : Memref sig .tc .vmem S128x768 .bf16} (hs : src = sq (srcB c j.1 j.2)) (hd : dst = sq (cB j.1 j.2))
    {sS rS : DmaSem sig} (hsS : sS = sndS j) (hrS : rS = rcvS j)
    {hsc : (dst : Memref sig (Dev.tc n : Thread nD τ).2.kind .vmem S128x768 .bf16).view.ref.isScScratch = false}
    {hsrc : src.view.WordExact} {hdst : dst.view.WordExact}
    {hsem : DmaTarget.Typed .vmem (.dma rS) (.remote (Dev.tc n : Thread nD τ) (dst : Memref sig (Dev.tc n : Thread nD τ).2.kind .vmem S128x768 .bf16) (.dma sS) hsc)}
    {α : Type} {Q : α → sProp 𝕄} {k : PUnit → Prog (TpuEff nD τ sig (Elt F) Λ₀ .tc) α} :
    iprop(recs P K ∗ owns (c : Thread nD τ) (srcB c j.1 j.2) (srcQ j.2) (snt P j.1 j.2.val c) ∗ any (peer j.1 c) (cB j.1 j.2)
        ∗ owesA c (owe c (order.drop m)) ∗ toks c j)
      ⊢ iprop(((cred (tallyAt (sndCell c j) () N) ∗ owesA c (owe c (order.drop (m + 1)))) -∗ go c (k ⟨⟩) Q)
          -∗ go c (.op (.enqueueDma src (.remote (Dev.tc n : Thread nD τ) dst (.dma sS) hsc) (.dma rS) hsrc hdst hsem) k) Q) := by
  rw [hl]
  exact wp_copy P K c n j (order.drop (m + 1)) hn hs hd hsS hrS

/-- A load of a block of the result. -/
theorem getO (c : Dev nD) (k : Fin 4) (l : Fin 2) {off : Fin 3 → ℕ} (h : off = ![k.val / 2, 256 * (k.val % 2) + 128 * l.val, 0])
    {inb : ∀ a, off a + S1x128x768.size a ≤ S2x512x768.size a} {q : PosShare TreeShare} {X : Vec F S1x128x768 .f32}
    {hl : oM.view.LoadsAt (Rect.unit (s := S2x512x768) off S1x128x768.size inb).toLoadRect}
    {α : Type} {Q : α → sProp 𝕄} {kk : Vec F S1x128x768 .f32 → Prog (TpuEff nD τ sig (Elt F) Λ₀ .tc) α} :
    (owns (c : Thread nD τ) (oB k l) q X : sProp 𝕄)
      ⊢ iprop((owns (c : Thread nD τ) (oB k l) q X -∗ go c (kk X) Q)
          -∗ go c (.op (.load oM (Rect.unit (s := S2x512x768) off S1x128x768.size inb).toLoadRect hl) kk) Q) :=
  wp_load_blk c oM h (inbO (k, l))

/-- A store to a block of partial products. -/
theorem setA (c : Dev nD) (d : Bool) (k : Fin 4) {off : Fin 3 → ℕ} (h : off = ![k.val, 0, 0])
    {inb : ∀ a, off a + S1x128x768.size a ≤ S4x128x768.size a} {X w : Vec F S1x128x768 .bf16}
    {hx : ((aM d).access (Rect.unit (s := S4x128x768) off S1x128x768.size inb)).Stores Finset.univ} {hm}
    {α : Type} {Q : α → sProp 𝕄} {kk : PUnit → Prog (TpuEff nD τ sig (Elt F) Λ₀ .tc) α} :
    (held c (aB d k) X : sProp 𝕄)
      ⊢ iprop((held c (aB d k) w -∗ go c (kk ⟨⟩) Q)
          -∗ go c (.op (.store (aM d) (Rect.unit (s := S4x128x768) off S1x128x768.size inb) w Finset.univ hx hm) kk) Q) :=
  wp_store_blk c (aM d) h (inbA k)

/-- A store to a block of the result. -/
theorem setO (c : Dev nD) (k : Fin 4) (l : Fin 2) {off : Fin 3 → ℕ} (h : off = ![k.val / 2, 256 * (k.val % 2) + 128 * l.val, 0])
    {inb : ∀ a, off a + S1x128x768.size a ≤ S2x512x768.size a} {X w : Vec F S1x128x768 .f32}
    {hx : (oM.access (Rect.unit (s := S2x512x768) off S1x128x768.size inb)).Stores Finset.univ} {hm}
    {α : Type} {Q : α → sProp 𝕄} {kk : PUnit → Prog (TpuEff nD τ sig (Elt F) Λ₀ .tc) α} :
    (held c (oB k l) X : sProp 𝕄)
      ⊢ iprop((held c (oB k l) w -∗ go c (kk ⟨⟩) Q)
          -∗ go c (.op (.store oM (Rect.unit (s := S2x512x768) off S1x128x768.size inb) w Finset.univ hx hm) kk) Q) :=
  wp_store_blk c oM h (inbO (k, l))

/-- The wait for what lands at step `j`, after the first `m` copies. -/
theorem wp_land (P : Bool → Dev nD → ℕ → Vec F S1x128x768 .bf16) (K : Dev nD × CK → ℕ) (c : Dev nD) (j : Stp) (m : ℕ)
    (hl : ∀ i ∈ order.drop m, lvl (some (true, j)) < lvl (some (true, i)))
    {rS : DmaSem sig} (hrS : csem (some (true, j)) = .dma rS) {a b : Memref sig .tc .vmem S128x768 .bf16} {ha hb}
    {α : Type} {Q : α → sProp 𝕄} {k : PUnit → Prog (TpuEff nD τ sig (Elt F) Λ₀ .tc) α} :
    iprop(recs P K ∗ levAts L lv ∗ owesA c (owe c (order.drop m)) ∗ turn c (true, j))
      ⊢ iprop(((held c (cB j.1 j.2) (lnd P j c) ∗ semVal (rcvCell c j) 0 ∗ owesA c (owe c (order.drop m))) -∗ go c (k ⟨⟩) Q)
          -∗ go c (.op (.waitDma2 rS a b ha hb) k) Q) :=
  wp_turn P K c (true, j) (order.drop m) hl hrS

/-- The wait for the copy of step `j` to have left, after all of them are made. -/
theorem wp_sent (P : Bool → Dev nD → ℕ → Vec F S1x128x768 .bf16) (K : Dev nD × CK → ℕ) (c : Dev nD) (j : Stp)
    {rS : DmaSem sig} (hrS : csem (some (false, j)) = .dma rS) {a b : Memref sig .tc .vmem S128x768 .bf16} {ha hb}
    {α : Type} {Q : α → sProp 𝕄} {k : PUnit → Prog (TpuEff nD τ sig (Elt F) Λ₀ .tc) α} :
    iprop(recs P K ∗ levAts L lv ∗ owesA c (owe c (order.drop 12)) ∗ cred (tallyAt (sndCell c j) () N) ∗ atPos ER (sndCell c j) 0 ∅ 0)
      ⊢ iprop(((owns (c : Thread nD τ) (srcB c j.1 j.2) (srcQ j.2) (snt P j.1 j.2.val c) ∗ semVal (sndCell c j) 0
              ∗ owesA c (owe c (order.drop 12))) -∗ go c (k ⟨⟩) Q)
          -∗ go c (.op (.waitDma2 rS a b ha hb) k) Q) :=
  wp_turn P K c (false, j) (order.drop 12) (fun _ h => absurd h (by simp)) hrS

end Cert.KernelIdeal.Run

end
-- ==== Proof.KernelIdeal.Parts.lean ====
/-
The parts of the body that store, copy or wait: what each needs on device `c` and what it leaves.
-/
module

public import proofs.«01_k».proof.Proof.KernelIdeal.Moves

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (I : Dev nD → Ins F) (K : Dev nD × CK → ℕ) (c : Dev nD)

open Val in
/-- The neighbours' barrier: each lends the landing area its neighbour copies to. -/
theorem part1 {Q} :
    iprop(recs (part I) K ∗ levAts L lv ∗ owesA c (O₀ c)
        ∗ (dutyTok ER (barCell (peer true c)) 0 false ∗ dutyTok ER (barCell (peer false c)) 0 true
          ∗ cred (tallyAt (barCell c) () 2) ∗ atPos ER (barCell c) 0 ∅ 0)
        ∗ barPay (peer true c) false ∗ barPay (peer false c) true ∗ insAt c (I c))
      ⊢ iprop(((barPay c false ∗ barPay c true ∗ semVal (barCell c) 0 ∗ owesA c (owe c (order.drop 0)) ∗ insAt c (I c))
            -∗ Q ⟨c, v2 c (I c), v5 c (I c), v7 c (I c), v16 c (I c), v20 c (I c), v21 c (I c), v28 c (I c), v31 c (I c)⟩)
          -∗ go c (on (k0_part1 (F := F))) Q) := by
  rw [k0_part1_eq_skeleton]
  unfold k0_part1_skel v31 v28 v26 v21 v20 v19 v16 v15 v7 v6 v5 v4 v3 v2 v1 v0
  iintro ⟨#HR, #HL, HO, ⟨Ht1, Ht2, Hc, Ha⟩, Hp1, Hp2, HI⟩ Hk
  simp only [Prog.lift, Prog.bind_op, Prog.bind_ret, Prog.pure_eq_ret, wp_deviceId]
  iapply (wp_barrier (part I) K c _ _ (Fin.ext (k0_dev1_eq c)) (Fin.ext (k0_dev2_eq c))) $$ [HO Ht1 Ht2 Hc Ha Hp1 Hp2]
  · isplitr; · iexact HR
    isplitr; · iexact HL
    isplitl [HO]; · iexact HO
    isplitl [Ht1]; · iexact Ht1
    isplitl [Ht2]; · iexact Ht2
    isplitl [Hc]; · iexact Hc
    isplitl [Ha]; · iexact Ha
    isplitl [Hp1] <;> iassumption
  iintro ⟨Hp1, Hp2, Hz, HO⟩
  iapply (wp_reads (.load 1 (.load 4 (.load 0 .refl)))) $$ HI
  iintro HI
  iapply (wp_fin c)
  iapply Hk
  isplitl [Hp1]; · iexact Hp1
  isplitl [Hp2]; · iexact Hp2
  isplitl [Hz]; · iexact Hz
  isplitl [HO]; · iexact HO
  iexact HI

open Val in
/-- The end of the device's own chunk's partial product: its two halves are stored. -/
theorem part7 {Q} :
    iprop(insAt c (I c)
        ∗ any c (aB false (rel c 0))
        ∗ any c (aB true (rel c 0)))
      ⊢ iprop(((insAt c (I c)
            ∗ held c (aB false (rel c 0)) (part I false c 0)
            ∗ held c (aB true (rel c 0)) (part I true c 0))
            -∗ Q (c1_i32_125 c (I c)))
          -∗ go c (on k0_part7 c (v2 c (I c)) (v20 c (I c)) (v21 c (I c)) (v28 c (I c)) (v81 c (I c)) (v103 c (I c)) (v125 c (I c)) (v147 c (I c)) (v169 c (I c)) (v191 c (I c)) (v213 c (I c)) (v220 c (I c)) (v234 c (I c))) Q) := by
  rw [k0_part7_eq_skeleton]
  unfold k0_part7_skel c1_i32_125
  iintro ⟨HI, Hf, Ht⟩ Hk
  simp only [Prog.lift, Prog.bind_op, Prog.bind_ret, Prog.pure_eq_ret]
  iapply (wp_reads (.load 2 (.load 3 .refl))) $$ HI
  iintro HI
  iapply (putA c false (rel c 0) (o12 c)) $$ Hf
  iintro Hf
  iapply (putA c true (rel c 0) (o12 c)) $$ Ht
  iintro Ht
  iapply (wp_fin c)
  iapply Hk
  isplitl [HI]; · iexact HI
  isplitl [Hf]; · iexact Hf
  iexact Ht

open Val in
/-- The two copies of step 0. -/
theorem part8 {Q} :
    iprop(recs (part I) K
        ∗ insAt c (I c)
        ∗ held c (aB false (rel c 0)) (part I false c 0)
        ∗ held c (aB true (rel c 0)) (part I true c 0)
        ∗ any (peer false c) (cB false 0)
        ∗ any (peer true c) (cB true 0)
        ∗ owesA c (owe c (order.drop 0))
        ∗ toks c (false, 0)
        ∗ toks c (true, 0))
      ⊢ iprop(((insAt c (I c)
            ∗ cred (tallyAt (sndCell c (false, 0)) () N)
            ∗ cred (tallyAt (sndCell c (true, 0)) () N)
            ∗ owesA c (owe c (order.drop 2)))
            -∗ Q ⟨(v292 c (I c)), (v293 c (I c)), (v300 c (I c)), (v303 c (I c)), (c64_i32_147 c (I c)), (v305 c (I c)), (c0_i32_148 c (I c))⟩)
          -∗ go c (on k0_part8 c (v2 c (I c)) (v5 c (I c)) (v7 c (I c)) (v16 c (I c)) (c1_i32_125 c (I c))) Q) := by
  rw [k0_part8_eq_skeleton]
  unfold k0_part8_skel v305 v303 v300 v298 v293 v292 v291 c64_i32_147 c0_i32_148
  iintro ⟨#HR, HI, Hf, Ht, Df, Dt, HO, Tf, Tt⟩ Hk
  simp only [Prog.lift, Prog.bind_op, Prog.bind_ret, Prog.pure_eq_ret]
  iapply (wp_send (part I) K c _ (false, 0) 0 rfl (Fin.ext (k0_dev3_eq c)) (congrArg sq (blk_congr (aM false) (o13 c) _ _)) rfl rfl rfl) $$ [Hf Df HO Tf]
  · isplitr; · iexact HR
    isplitl [Hf]; · iexact Hf
    isplitl [Df]; · iexact Df
    isplitl [HO]; · iexact HO
    iexact Tf
  iintro ⟨Cf, HO⟩
  iapply (wp_send (part I) K c _ (true, 0) 1 rfl (Fin.ext (k0_dev4_eq c)) (congrArg sq (blk_congr (aM true) (o13 c) _ _)) rfl rfl rfl) $$ [Ht Dt HO Tt]
  · isplitr; · iexact HR
    isplitl [Ht]; · iexact Ht
    isplitl [Dt]; · iexact Dt
    isplitl [HO]; · iexact HO
    iexact Tt
  iintro ⟨Ct, HO⟩
  iapply (wp_reads (.load 0 .refl)) $$ HI
  iintro HI
  iapply (wp_fin c)
  iapply Hk
  isplitl [HI]; · iexact HI
  isplitl [Cf]; · iexact Cf
  isplitl [Ct]; · iexact Ct
  iexact HO

open Val in
/-- The end of the next chunk's partial product. -/
theorem part14 {Q} :
    iprop(insAt c (I c)
        ∗ any c (aB false (rel c 1))
        ∗ any c (aB true (rel c 1)))
      ⊢ iprop(((insAt c (I c)
            ∗ held c (aB false (rel c 1)) (part I false c 1)
            ∗ held c (aB true (rel c 1)) (part I true c 1))
            -∗ Q ⟨(v545 c (I c)), (v546 c (I c))⟩)
          -∗ go c (on k0_part14 c (v2 c (I c)) (v20 c (I c)) (v292 c (I c)) (v293 c (I c)) (v353 c (I c)) (v375 c (I c)) (v397 c (I c)) (v419 c (I c)) (v441 c (I c)) (v463 c (I c)) (v485 c (I c)) (v507 c (I c)) (v508 c (I c))) Q) := by
  rw [k0_part14_eq_skeleton]
  unfold k0_part14_skel v546 v545 v544 v543
  iintro ⟨HI, Hf, Ht⟩ Hk
  simp only [Prog.lift, Prog.bind_op, Prog.bind_ret, Prog.pure_eq_ret]
  iapply (wp_reads (.load 2 (.load 3 .refl))) $$ HI
  iintro HI
  iapply (putA c false (rel c 1) (show k0_off23 c 1#32 = ![(rel c 1).val, 0, 0] from o23 c 0)) $$ Hf
  iintro Hf
  iapply (putA c true (rel c 1) (show k0_off23 c 1#32 = ![(rel c 1).val, 0, 0] from o23 c 0)) $$ Ht
  iintro Ht
  iapply (wp_fin c)
  iapply Hk
  isplitl [HI]; · iexact HI
  isplitl [Hf]; · iexact Hf
  iexact Ht

open Val in
/-- The end of the previous chunk's partial product. -/
theorem part20 {Q} :
    iprop(insAt c (I c)
        ∗ any c (aB false (rel c 3)))
      ⊢ iprop(((insAt c (I c)
            ∗ any c (aB false (rel c 3)))
            -∗ Q ⟨(v785 c (I c)), (v786 c (I c))⟩)
          -∗ go c (on k0_part20 c (v20 c (I c)) (v545 c (I c)) (v546 c (I c)) (v553 c (I c)) (v606 c (I c)) (v628 c (I c)) (v650 c (I c)) (v672 c (I c)) (v694 c (I c)) (v716 c (I c)) (v738 c (I c)) (v745 c (I c)) (v748 c (I c))) Q) := by
  rw [k0_part20_eq_skeleton]
  unfold k0_part20_skel v786 v785 v766 v763
  iintro ⟨HI, ⟨%X, Hf⟩⟩ Hk
  simp only [Prog.lift, Prog.bind_op, Prog.bind_ret, Prog.pure_eq_ret]
  iapply (wp_reads (.load 2 (.load 3 .refl))) $$ HI
  iintro HI
  iapply (getA c false (rel c 3) (show k0_off33 c 1#32 = ![(rel c 3).val, 0, 0] from o33 c 0)) $$ Hf
  iintro Hf
  ihave Hf := (show held c (aB false (rel c 3)) X ⊢ any c (aB false (rel c 3)) from by iintro H; iexists X; iexact H) $$ Hf
  iapply (wp_fin c)
  iapply Hk
  isplitl [HI]; · iexact HI
  iexact Hf

open Val in
/-- It is stored, and what lands at step 0 from the left is added to its first half. -/
theorem part21 (w2 w5 w7 w545 : BitVec 32) {Q} :
    iprop(recs (part I) K
        ∗ levAts L lv
        ∗ any c (aB false (rel c 3))
        ∗ any c (aB true (rel c 3))
        ∗ owesA c (owe c (order.drop 2))
        ∗ turn c (true, (false, 0)))
      ⊢ iprop(((held c (aB false (rel c 3)) (snt (part I) false 1 c)
            ∗ held c (aB true (rel c 3)) (part I true c 3)
            ∗ held c (cB false 0) (lnd (part I) (false, 0) c)
            ∗ semVal (rcvCell c (false, 0)) 0
            ∗ owesA c (owe c (order.drop 2)))
            -∗ Q ⟨⟩)
          -∗ go c (on k0_part21 c w2 w5 w7 w545 (v785 c (I c)) (v786 c (I c))) Q) := by
  rw [k0_part21_eq_skeleton]
  unfold k0_part21_skel
  iintro ⟨#HR, #HL, ⟨%X, Hf⟩, Ht, HO, Tf⟩ Hk
  simp only [Prog.lift, Prog.bind_op, Prog.bind_ret, Prog.pure_eq_ret]
  iapply (setA c false (rel c 3) (show k0_off33 c 1#32 = ![(rel c 3).val, 0, 0] from o33 c 0)) $$ Hf
  iintro Hf
  iapply (putA c true (rel c 3) (show k0_off33 c 1#32 = ![(rel c 3).val, 0, 0] from o33 c 0)) $$ Ht
  iintro Ht
  iapply (wp_land (part I) K c (false, 0) 2 (by decide) rfl) $$ [HO Tf]
  · isplitr; · iexact HR
    isplitr; · iexact HL
    isplitl [HO]; · iexact HO
    iexact Tf
  iintro ⟨Lf, Zf, HO⟩
  iapply (getA c false (rel c 3) (show k0_off33 c 1#32 = ![(rel c 3).val, 0, 0] from o33 c 0)) $$ Hf
  iintro Hf
  iapply (getC c false 0 rfl) $$ Lf
  iintro Lf
  iapply (getA c false (rel c 3) (show k0_off33 c 1#32 = ![(rel c 3).val, 0, 0] from o33 c 0)) $$ Hf
  iintro Hf
  iapply (setA c false (rel c 3) (show k0_off33 c 1#32 = ![(rel c 3).val, 0, 0] from o33 c 0)) $$ Hf
  iintro Hf
  iapply (wp_fin c)
  iapply Hk
  isplitl [Hf]; · iexact Hf
  isplitl [Ht]; · iexact Ht
  isplitl [Lf]; · iexact Lf
  isplitl [Zf]; · iexact Zf
  iexact HO

/-- What lands at step 0 from the right is added; the copy of step 1 to the right. -/
theorem part22 (w2 w5 w7 : BitVec 32) {Q} :
    iprop(recs (part I) K
        ∗ levAts L lv
        ∗ held c (aB true (rel c 1)) (part I true c 1)
        ∗ owesA c (owe c (order.drop 2))
        ∗ turn c (true, (true, 0))
        ∗ held c (aB false (rel c 3)) (snt (part I) false 1 c)
        ∗ any (peer false c) (cB false 1)
        ∗ toks c (false, 1))
      ⊢ iprop(((held c (aB true (rel c 1)) (snt (part I) true 1 c)
            ∗ held c (cB true 0) (lnd (part I) (true, 0) c)
            ∗ semVal (rcvCell c (true, 0)) 0
            ∗ owesA c (owe c (order.drop 3))
            ∗ cred (tallyAt (sndCell c (false, 1)) () N))
            -∗ Q ⟨⟩)
          -∗ go c (on k0_part22 c w2 w5 w7) Q) := by
  rw [k0_part22_eq_skeleton]
  unfold k0_part22_skel
  iintro ⟨#HR, #HL, Ht, HO, Tt, Hf, Df, Kf⟩ Hk
  simp only [Prog.lift, Prog.bind_op, Prog.bind_ret, Prog.pure_eq_ret]
  iapply (wp_land (part I) K c (true, 0) 2 (by decide) rfl) $$ [HO Tt]
  · isplitr; · iexact HR
    isplitr; · iexact HL
    isplitl [HO]; · iexact HO
    iexact Tt
  iintro ⟨Lt, Zt, HO⟩
  iapply (getA c true (rel c 1) (show k0_off23 c 1#32 = ![(rel c 1).val, 0, 0] from o23 c 0)) $$ Ht
  iintro Ht
  iapply (getC c true 0 rfl) $$ Lt
  iintro Lt
  iapply (getA c true (rel c 1) (show k0_off23 c 1#32 = ![(rel c 1).val, 0, 0] from o23 c 0)) $$ Ht
  iintro Ht
  iapply (setA c true (rel c 1) (show k0_off23 c 1#32 = ![(rel c 1).val, 0, 0] from o23 c 0)) $$ Ht
  iintro Ht
  iapply (wp_send (part I) K c _ (false, 1) 2 rfl (Fin.ext (k0_dev5_eq c)) (congrArg sq (blk_congr (aM false) (show k0_off34 c 1#32 = ![(rel c 3).val, 0, 0] from o34 c 0) _ _)) rfl rfl rfl) $$ [Hf Df HO Kf]
  · isplitr; · iexact HR
    isplitl [Hf]; · iexact Hf
    isplitl [Df]; · iexact Df
    isplitl [HO]; · iexact HO
    iexact Kf
  iintro ⟨Cf, HO⟩
  iapply (wp_fin c)
  iapply Hk
  isplitl [Ht]; · iexact Ht
  isplitl [Lt]; · iexact Lt
  isplitl [Zt]; · iexact Zt
  isplitl [HO]; · iexact HO
  iexact Cf

open Val in
/-- The copy of step 1 to the left. -/
theorem part23 {Q} :
    iprop(recs (part I) K
        ∗ insAt c (I c)
        ∗ held c (aB true (rel c 1)) (snt (part I) true 1 c)
        ∗ any (peer true c) (cB true 1)
        ∗ owesA c (owe c (order.drop 3))
        ∗ toks c (true, 1))
      ⊢ iprop(((insAt c (I c)
            ∗ cred (tallyAt (sndCell c (true, 1)) () N)
            ∗ owesA c (owe c (order.drop 4)))
            -∗ Q ⟨(v858 c (I c)), (v859 c (I c)), (v866 c (I c)), (v871 c (I c)), (v890 c (I c)), (c1_i32_453 c (I c))⟩)
          -∗ go c (on k0_part23 c (v2 c (I c)) (v16 c (I c))) Q) := by
  rw [k0_part23_eq_skeleton]
  unfold k0_part23_skel v890 v871 v866 v864 v859 v858 v857 c1_i32_453
  iintro ⟨#HR, HI, Ht, Dt, HO, Kt⟩ Hk
  simp only [Prog.lift, Prog.bind_op, Prog.bind_ret, Prog.pure_eq_ret]
  iapply (wp_send (part I) K c _ (true, 1) 3 rfl (Fin.ext (k0_dev6_eq c)) (congrArg sq (blk_congr (aM true) (show k0_off35 c 1#32 = ![(rel c 1).val, 0, 0] from o35 c 0) _ _)) rfl rfl rfl) $$ [Ht Dt HO Kt]
  · isplitr; · iexact HR
    isplitl [Ht]; · iexact Ht
    isplitl [Dt]; · iexact Dt
    isplitl [HO]; · iexact HO
    iexact Kt
  iintro ⟨Ct, HO⟩
  iapply (wp_reads (.load 0 .refl)) $$ HI
  iintro HI
  iapply (wp_fin c)
  iapply Hk
  isplitl [HI]; · iexact HI
  isplitl [Ct]; · iexact Ct
  iexact HO

open Val in
/-- The end of the last chunk's partial product; the landing of step 1 from the left. -/
theorem part29 (w2 w7 w858 : BitVec 32) {Q} :
    iprop(recs (part I) K
        ∗ levAts L lv
        ∗ any c (aB false (rel c 2))
        ∗ any c (aB true (rel c 2))
        ∗ owesA c (owe c (order.drop 4))
        ∗ turn c (true, (false, 1)))
      ⊢ iprop((∀ w0, (held c (aB false (rel c 2)) (part I false c 2)
            ∗ held c (aB true (rel c 2)) (part I true c 2)
            ∗ held c (cB false 1) (lnd (part I) (false, 1) c)
            ∗ semVal (rcvCell c (false, 1)) 0
            ∗ owesA c (owe c (order.drop 4)))
            -∗ Q ⟨w0, k0_pay94 (part I false c 2)⟩)
          -∗ go c (on k0_part29 c w2 w7 (v20 c (I c)) w858 (v941 c (I c)) (v963 c (I c)) (v985 c (I c)) (v1007 c (I c)) (v1029 c (I c)) (v1051 c (I c)) (v1073 c (I c)) (v1080 c (I c)) (v1089 c (I c))) Q) := by
  rw [k0_part29_eq_skeleton]
  unfold k0_part29_skel
  iintro ⟨#HR, #HL, Hf, Ht, HO, Tf⟩ Hk
  simp only [Prog.lift, Prog.bind_op, Prog.bind_ret, Prog.pure_eq_ret]
  iapply (putA c false (rel c 2) (show k0_off23 c 2#32 = ![(rel c 2).val, 0, 0] from o23 c 1)) $$ Hf
  iintro Hf
  ihave Hf := (show held c (aB false (rel c 2)) (k0_pay92 (v20 c (I c)) (v941 c (I c)) (v963 c (I c)) (v985 c (I c)) (v1007 c (I c)) (v1029 c (I c)) (v1051 c (I c)) (v1073 c (I c)) (v1080 c (I c)) (v1089 c (I c)))
    ⊢ held c (aB false (rel c 2)) (part I false c 2) from .rfl) $$ Hf
  iapply (putA c true (rel c 2) (show k0_off23 c 2#32 = ![(rel c 2).val, 0, 0] from o23 c 1)) $$ Ht
  iintro Ht
  iapply (wp_land (part I) K c (false, 1) 4 (by decide) rfl) $$ [HO Tf]
  · isplitr; · iexact HR
    isplitr; · iexact HL
    isplitl [HO]; · iexact HO
    iexact Tf
  iintro ⟨Lf, Zf, HO⟩
  iapply (getA c false (rel c 2) (show k0_off33 c 2#32 = ![(rel c 2).val, 0, 0] from o33 c 1)) $$ Hf
  iintro Hf
  iapply (wp_fin c)
  iapply Hk $$ %_ [Hf Ht Lf Zf HO]
  isplitl [Hf]; · iexact Hf
  isplitl [Ht]; · iexact Ht
  isplitl [Lf]; · iexact Lf
  isplitl [Zf]; · iexact Zf
  iexact HO

/-- What landed at step 1 is added, on both sides. -/
theorem part30 (w2 w5 w7 w1119 : BitVec 32) {Q} :
    iprop(recs (part I) K
        ∗ levAts L lv
        ∗ held c (aB false (rel c 2)) (part I false c 2)
        ∗ held c (aB true (rel c 2)) (part I true c 2)
        ∗ held c (cB false 1) (lnd (part I) (false, 1) c)
        ∗ owesA c (owe c (order.drop 4))
        ∗ turn c (true, (true, 1)))
      ⊢ iprop(((held c (aB false (rel c 2)) (snt (part I) false 2 c)
            ∗ held c (aB true (rel c 2)) (snt (part I) true 2 c)
            ∗ held c (cB false 1) (lnd (part I) (false, 1) c)
            ∗ held c (cB true 1) (lnd (part I) (true, 1) c)
            ∗ semVal (rcvCell c (true, 1)) 0
            ∗ owesA c (owe c (order.drop 4)))
            -∗ Q ⟨⟩)
          -∗ go c (on k0_part30 c w2 w5 w7 w1119 (k0_pay94 (part I false c 2))) Q) := by
  rw [k0_part30_eq_skeleton]
  unfold k0_part30_skel
  iintro ⟨#HR, #HL, Hf, Ht, Lf, HO, Tt⟩ Hk
  simp only [Prog.lift, Prog.bind_op, Prog.bind_ret, Prog.pure_eq_ret]
  iapply (getC c false 1 rfl) $$ Lf
  iintro Lf
  iapply (getA c false (rel c 2) (show k0_off33 c 2#32 = ![(rel c 2).val, 0, 0] from o33 c 1)) $$ Hf
  iintro Hf
  iapply (setA c false (rel c 2) (show k0_off33 c 2#32 = ![(rel c 2).val, 0, 0] from o33 c 1)) $$ Hf
  iintro Hf
  iapply (wp_land (part I) K c (true, 1) 4 (by decide) rfl) $$ [HO Tt]
  · isplitr; · iexact HR
    isplitr; · iexact HL
    isplitl [HO]; · iexact HO
    iexact Tt
  iintro ⟨Lt, Zt, HO⟩
  iapply (getA c true (rel c 2) (show k0_off23 c 2#32 = ![(rel c 2).val, 0, 0] from o23 c 1)) $$ Ht
  iintro Ht
  iapply (getC c true 1 rfl) $$ Lt
  iintro Lt
  iapply (getA c true (rel c 2) (show k0_off23 c 2#32 = ![(rel c 2).val, 0, 0] from o23 c 1)) $$ Ht
  iintro Ht
  iapply (setA c true (rel c 2) (show k0_off23 c 2#32 = ![(rel c 2).val, 0, 0] from o23 c 1)) $$ Ht
  iintro Ht
  iapply (wp_fin c)
  iapply Hk
  isplitl [Hf]; · iexact Hf
  isplitl [Ht]; · iexact Ht
  isplitl [Lf]; · iexact Lf
  isplitl [Lt]; · iexact Lt
  isplitl [Zt]; · iexact Zt
  iexact HO

/-- The copies of step 2; the landing from the left. -/
theorem part31 (w2 w5 w7 : BitVec 32) {Q} :
    iprop(recs (part I) K
        ∗ levAts L lv
        ∗ held c (aB false (rel c 2)) (snt (part I) false 2 c)
        ∗ held c (aB true (rel c 2)) (snt (part I) true 2 c)
        ∗ any (peer false c) (cB false 2)
        ∗ any (peer true c) (cB true 2)
        ∗ owesA c (owe c (order.drop 4))
        ∗ toks c (false, 2)
        ∗ toks c (true, 2)
        ∗ turn c (true, (false, 2))
        ∗ held c (aB false (rel c 1)) (part I false c 1))
      ⊢ iprop((∀ w0, (cred (tallyAt (sndCell c (false, 2)) () N)
            ∗ cred (tallyAt (sndCell c (true, 2)) () N)
            ∗ owesA c (owe c (order.drop 6))
            ∗ held c (cB false 2) (lnd (part I) (false, 2) c)
            ∗ semVal (rcvCell c (false, 2)) 0
            ∗ held c (aB false (rel c 1)) (part I false c 1))
            -∗ Q ⟨w0, k0_pay97 (part I false c 1)⟩)
          -∗ go c (on k0_part31 c w2 w5 w7) Q) := by
  rw [k0_part31_eq_skeleton]
  unfold k0_part31_skel
  iintro ⟨#HR, #HL, Hf, Ht, Df, Dt, HO, Kf, Kt, Tf, Gf⟩ Hk
  simp only [Prog.lift, Prog.bind_op, Prog.bind_ret, Prog.pure_eq_ret]
  iapply (wp_send (part I) K c _ (false, 2) 4 rfl (Fin.ext (k0_dev7_eq c)) (congrArg sq (blk_congr (aM false) (show k0_off34 c 2#32 = ![(rel c 2).val, 0, 0] from o34 c 1) _ _)) rfl rfl rfl) $$ [Hf Df HO Kf]
  · isplitr; · iexact HR
    isplitl [Hf]; · iexact Hf
    isplitl [Df]; · iexact Df
    isplitl [HO]; · iexact HO
    iexact Kf
  iintro ⟨Cf, HO⟩
  iapply (wp_send (part I) K c _ (true, 2) 5 rfl (Fin.ext (k0_dev8_eq c)) (congrArg sq (blk_congr (aM true) (show k0_off35 c 2#32 = ![(rel c 2).val, 0, 0] from o35 c 1) _ _)) rfl rfl rfl) $$ [Ht Dt HO Kt]
  · isplitr; · iexact HR
    isplitl [Ht]; · iexact Ht
    isplitl [Dt]; · iexact Dt
    isplitl [HO]; · iexact HO
    iexact Kt
  iintro ⟨Ct, HO⟩
  iapply (wp_land (part I) K c (false, 2) 6 (by decide) rfl) $$ [HO Tf]
  · isplitr; · iexact HR
    isplitr; · iexact HL
    isplitl [HO]; · iexact HO
    iexact Tf
  iintro ⟨Lf, Zf, HO⟩
  iapply (getA c false (rel c 1) (show k0_off33 c 3#32 = ![(rel c 1).val, 0, 0] from o33 c 2)) $$ Gf
  iintro Gf
  iapply (wp_fin c)
  iapply Hk $$ %_ [Cf Ct HO Lf Zf Gf]
  isplitl [Cf]; · iexact Cf
  isplitl [Ct]; · iexact Ct
  isplitl [HO]; · iexact HO
  isplitl [Lf]; · iexact Lf
  isplitl [Zf]; · iexact Zf
  iexact Gf

/-- What landed at step 2 is added, on both sides. -/
theorem part32 (w2 w5 w7 w1180 : BitVec 32) {Q} :
    iprop(recs (part I) K
        ∗ levAts L lv
        ∗ held c (aB false (rel c 1)) (part I false c 1)
        ∗ held c (aB true (rel c 3)) (part I true c 3)
        ∗ held c (cB false 2) (lnd (part I) (false, 2) c)
        ∗ owesA c (owe c (order.drop 6))
        ∗ turn c (true, (true, 2)))
      ⊢ iprop((∀ w0, (held c (aB false (rel c 1)) (snt (part I) false 3 c)
            ∗ held c (aB true (rel c 3)) (snt (part I) true 3 c)
            ∗ held c (cB false 2) (lnd (part I) (false, 2) c)
            ∗ held c (cB true 2) (lnd (part I) (true, 2) c)
            ∗ semVal (rcvCell c (true, 2)) 0
            ∗ owesA c (owe c (order.drop 6)))
            -∗ Q ⟨k0_pay98 (k0_pay97 (part I false c 1)) (lnd (part I) (false, 2) c), w0, k0_pay100 (part I true c 3) (lnd (part I) (true, 2) c)⟩)
          -∗ go c (on k0_part32 c w2 w5 w7 w1180 (k0_pay97 (part I false c 1))) Q) := by
  rw [k0_part32_eq_skeleton]
  unfold k0_part32_skel
  iintro ⟨#HR, #HL, Hf, Ht, Lf, HO, Tt⟩ Hk
  simp only [Prog.lift, Prog.bind_op, Prog.bind_ret, Prog.pure_eq_ret]
  iapply (getC c false 2 rfl) $$ Lf
  iintro Lf
  iapply (getA c false (rel c 1) (show k0_off33 c 3#32 = ![(rel c 1).val, 0, 0] from o33 c 2)) $$ Hf
  iintro Hf
  iapply (setA c false (rel c 1) (show k0_off33 c 3#32 = ![(rel c 1).val, 0, 0] from o33 c 2)) $$ Hf
  iintro Hf
  iapply (wp_land (part I) K c (true, 2) 6 (by decide) rfl) $$ [HO Tt]
  · isplitr; · iexact HR
    isplitr; · iexact HL
    isplitl [HO]; · iexact HO
    iexact Tt
  iintro ⟨Lt, Zt, HO⟩
  iapply (getA c true (rel c 3) (show k0_off23 c 3#32 = ![(rel c 3).val, 0, 0] from o23 c 2)) $$ Ht
  iintro Ht
  iapply (getC c true 2 rfl) $$ Lt
  iintro Lt
  iapply (getA c true (rel c 3) (show k0_off23 c 3#32 = ![(rel c 3).val, 0, 0] from o23 c 2)) $$ Ht
  iintro Ht
  iapply (setA c true (rel c 3) (show k0_off23 c 3#32 = ![(rel c 3).val, 0, 0] from o23 c 2)) $$ Ht
  iintro Ht
  iapply (wp_fin c)
  iapply Hk $$ %_ [Hf Ht Lf Lt Zt HO]
  isplitl [Hf]; · iexact Hf
  isplitl [Ht]; · iexact Ht
  isplitl [Lf]; · iexact Lf
  isplitl [Lt]; · iexact Lt
  isplitl [Zt]; · iexact Zt
  iexact HO

/-- The copies of step 3; the first block of the result. -/
theorem part33 (w5 w1180 w1200 : BitVec 32) (X Y : FVec F S128x768 .bf16) {Q} :
    iprop(recs (part I) K
        ∗ held c (aB false (rel c 1)) (snt (part I) false 3 c)
        ∗ held c (aB true (rel c 3)) (snt (part I) true 3 c)
        ∗ any (peer false c) (cB false 3)
        ∗ any (peer true c) (cB true 3)
        ∗ owesA c (owe c (order.drop 6))
        ∗ toks c (false, 3)
        ∗ toks c (true, 3)
        ∗ any c (oB (rel c 1) 0)
        ∗ any c (oB (rel c 3) 1))
      ⊢ iprop(((cred (tallyAt (sndCell c (false, 3)) () N)
            ∗ cred (tallyAt (sndCell c (true, 3)) () N)
            ∗ owesA c (owe c (order.drop 8))
            ∗ held c (oB (rel c 1) 0) (k0_pay102 X)
            ∗ any c (oB (rel c 3) 1))
            -∗ Q (k0_pay103 Y))
          -∗ go c (on k0_part33 c w5 w1180 X w1200 Y) Q) := by
  rw [k0_part33_eq_skeleton]
  unfold k0_part33_skel
  iintro ⟨#HR, Hf, Ht, Df, Dt, HO, Kf, Kt, Oa, ⟨%Z, Ob⟩⟩ Hk
  simp only [Prog.lift, Prog.bind_op, Prog.bind_ret, Prog.pure_eq_ret]
  iapply (wp_send (part I) K c _ (false, 3) 6 rfl (Fin.ext (k0_dev9_eq c)) (congrArg sq (blk_congr (aM false) (show k0_off34 c 3#32 = ![(rel c 1).val, 0, 0] from o34 c 2) _ _)) rfl rfl rfl) $$ [Hf Df HO Kf]
  · isplitr; · iexact HR
    isplitl [Hf]; · iexact Hf
    isplitl [Df]; · iexact Df
    isplitl [HO]; · iexact HO
    iexact Kf
  iintro ⟨Cf, HO⟩
  iapply (wp_send (part I) K c _ (true, 3) 7 rfl (Fin.ext (k0_dev10_eq c)) (congrArg sq (blk_congr (aM true) (show k0_off35 c 3#32 = ![(rel c 3).val, 0, 0] from o35 c 2) _ _)) rfl rfl rfl) $$ [Ht Dt HO Kt]
  · isplitr; · iexact HR
    isplitl [Ht]; · iexact Ht
    isplitl [Dt]; · iexact Dt
    isplitl [HO]; · iexact HO
    iexact Kt
  iintro ⟨Ct, HO⟩
  iapply (putO c (rel c 1) 0 (show k0_off36 c 3#32 = ![(rel c 1).val / 2, 256 * ((rel c 1).val % 2) + 128 * (0 : Fin 2).val, 0] from o36 c 2)) $$ Oa
  iintro Oa
  iapply (getO c (rel c 3) 1 (show k0_off37 c 3#32 = ![(rel c 3).val / 2, 256 * ((rel c 3).val % 2) + 128 * (1 : Fin 2).val, 0] from o37 c 2)) $$ Ob
  iintro Ob
  ihave Ob := (show held c (oB (rel c 3) 1) Z ⊢ any c (oB (rel c 3) 1) from by iintro H; iexists Z; iexact H) $$ Ob
  iapply (wp_fin c)
  iapply Hk
  isplitl [Cf]; · iexact Cf
  isplitl [Ct]; · iexact Ct
  isplitl [HO]; · iexact HO
  isplitl [Oa]; · iexact Oa
  iexact Ob

/-- The second block of the result; the landings of step 3; the copy of step 4 to the right. -/
theorem part34 (w5 w7 : BitVec 32) (X : FVec F S128x768 .f32) {Q} :
    iprop(recs (part I) K
        ∗ levAts L lv
        ∗ any c (oB (rel c 3) 1)
        ∗ owesA c (owe c (order.drop 8))
        ∗ turn c (true, (false, 3))
        ∗ turn c (true, (true, 3))
        ∗ any (peer false c) (cB false 4)
        ∗ toks c (false, 4))
      ⊢ iprop(((held c (oB (rel c 3) 1) (k0_pay104 X)
            ∗ owns (c : Thread nD τ) (cB false 3) fullShare.right (lnd (part I) (false, 3) c)
            ∗ held c (cB true 3) (lnd (part I) (true, 3) c)
            ∗ semVal (rcvCell c (false, 3)) 0
            ∗ semVal (rcvCell c (true, 3)) 0
            ∗ cred (tallyAt (sndCell c (false, 4)) () N)
            ∗ owesA c (owe c (order.drop 9)))
            -∗ Q ⟨⟩)
          -∗ go c (on k0_part34 c w5 w7 X) Q) := by
  rw [k0_part34_eq_skeleton]
  unfold k0_part34_skel
  iintro ⟨#HR, #HL, ⟨%Z, Ob⟩, HO, Tf, Tt, Df, Kf⟩ Hk
  simp only [Prog.lift, Prog.bind_op, Prog.bind_ret, Prog.pure_eq_ret]
  iapply (setO c (rel c 3) 1 (show k0_off37 c 3#32 = ![(rel c 3).val / 2, 256 * ((rel c 3).val % 2) + 128 * (1 : Fin 2).val, 0] from o37 c 2)) $$ Ob
  iintro Ob
  iapply (wp_land (part I) K c (false, 3) 8 (by decide) rfl) $$ [HO Tf]
  · isplitr; · iexact HR
    isplitr; · iexact HL
    isplitl [HO]; · iexact HO
    iexact Tf
  iintro ⟨Lf, Zf, HO⟩
  iapply (wp_land (part I) K c (true, 3) 8 (by decide) rfl) $$ [HO Tt]
  · isplitr; · iexact HR
    isplitr; · iexact HL
    isplitl [HO]; · iexact HO
    iexact Tt
  iintro ⟨Lt, Zt, HO⟩
  ihave Lf := (owns_halves (c : Thread nD τ) (cB false 3) fullShare (lnd (part I) (false, 3) c)).1 $$ Lf
  icases Lf with ⟨Ll, Lr⟩
  iapply (wp_send (part I) K c _ (false, 4) 8 rfl (Fin.ext (k0_dev11_eq c)) rfl rfl rfl rfl) $$ [Ll Df HO Kf]
  · isplitr; · iexact HR
    isplitl [Ll]; · iexact Ll
    isplitl [Df]; · iexact Df
    isplitl [HO]; · iexact HO
    iexact Kf
  iintro ⟨Cf, HO⟩
  iapply (wp_fin c)
  iapply Hk
  isplitl [Ob]; · iexact Ob
  isplitl [Lr]; · iexact Lr
  isplitl [Lt]; · iexact Lt
  isplitl [Zf]; · iexact Zf
  isplitl [Zt]; · iexact Zt
  isplitl [Cf]; · iexact Cf
  iexact HO

/-- The copy of step 4 to the left; the third block of the result. -/
theorem part35 (w2 w5 : BitVec 32) {Q} :
    iprop(recs (part I) K
        ∗ owns (c : Thread nD τ) (cB false 3) fullShare.right (lnd (part I) (false, 3) c)
        ∗ held c (cB true 3) (lnd (part I) (true, 3) c)
        ∗ any (peer true c) (cB true 4)
        ∗ owesA c (owe c (order.drop 9))
        ∗ toks c (true, 4)
        ∗ any c (oB (rel c 0) 0))
      ⊢ iprop(((owns (c : Thread nD τ) (cB false 3) fullShare.right (lnd (part I) (false, 3) c)
            ∗ owns (c : Thread nD τ) (cB true 3) fullShare.right (lnd (part I) (true, 3) c)
            ∗ cred (tallyAt (sndCell c (true, 4)) () N)
            ∗ owesA c (owe c (order.drop 10))
            ∗ held c (oB (rel c 0) 0) (k0_pay105 (lnd (part I) (false, 3) c)))
            -∗ Q (k0_pay106 (lnd (part I) (true, 3) c)))
          -∗ go c (on k0_part35 c w2 w5) Q) := by
  rw [k0_part35_eq_skeleton]
  unfold k0_part35_skel
  iintro ⟨#HR, Lr, Lt, Dt, HO, Kt, Oa⟩ Hk
  simp only [Prog.lift, Prog.bind_op, Prog.bind_ret, Prog.pure_eq_ret]
  ihave Lt := (owns_halves (c : Thread nD τ) (cB true 3) fullShare (lnd (part I) (true, 3) c)).1 $$ Lt
  icases Lt with ⟨Ltl, Ltr⟩
  iapply (wp_send (part I) K c _ (true, 4) 9 rfl (Fin.ext (k0_dev12_eq c)) rfl rfl rfl rfl) $$ [Ltl Dt HO Kt]
  · isplitr; · iexact HR
    isplitl [Ltl]; · iexact Ltl
    isplitl [Dt]; · iexact Dt
    isplitl [HO]; · iexact HO
    iexact Kt
  iintro ⟨Ct, HO⟩
  iapply (getC c false 3 rfl) $$ Lr
  iintro Lr
  iapply (putO c (rel c 0) 0 (o38 c)) $$ Oa
  iintro Oa
  iapply (getC c true 3 rfl) $$ Ltr
  iintro Ltr
  iapply (wp_fin c)
  iapply Hk
  isplitl [Lr]; · iexact Lr
  isplitl [Ltr]; · iexact Ltr
  isplitl [Ct]; · iexact Ct
  isplitl [HO]; · iexact HO
  iexact Oa

/-- The fourth block of the result; the landings of step 4. -/
theorem part36 (w5 w7 : BitVec 32) (X : FVec F S128x768 .f32) {Q} :
    iprop(recs (part I) K
        ∗ levAts L lv
        ∗ any c (oB (rel c 0) 1)
        ∗ owesA c (owe c (order.drop 10))
        ∗ turn c (true, (false, 4))
        ∗ turn c (true, (true, 4)))
      ⊢ iprop(((held c (oB (rel c 0) 1) (k0_pay107 X)
            ∗ held c (cB false 4) (lnd (part I) (false, 4) c)
            ∗ held c (cB true 4) (lnd (part I) (true, 4) c)
            ∗ semVal (rcvCell c (false, 4)) 0
            ∗ semVal (rcvCell c (true, 4)) 0
            ∗ owesA c (owe c (order.drop 10)))
            -∗ Q ⟨⟩)
          -∗ go c (on k0_part36 c w5 w7 X) Q) := by
  rw [k0_part36_eq_skeleton]
  unfold k0_part36_skel
  iintro ⟨#HR, #HL, Oa, HO, Tf, Tt⟩ Hk
  simp only [Prog.lift, Prog.bind_op, Prog.bind_ret, Prog.pure_eq_ret]
  iapply (putO c (rel c 0) 1 (o39 c)) $$ Oa
  iintro Oa
  iapply (wp_land (part I) K c (false, 4) 10 (by decide) rfl) $$ [HO Tf]
  · isplitr; · iexact HR
    isplitr; · iexact HL
    isplitl [HO]; · iexact HO
    iexact Tf
  iintro ⟨Lf, Zf, HO⟩
  iapply (wp_land (part I) K c (true, 4) 10 (by decide) rfl) $$ [HO Tt]
  · isplitr; · iexact HR
    isplitr; · iexact HL
    isplitl [HO]; · iexact HO
    iexact Tt
  iintro ⟨Lt, Zt, HO⟩
  iapply (wp_fin c)
  iapply Hk
  isplitl [Oa]; · iexact Oa
  isplitl [Lf]; · iexact Lf
  isplitl [Lt]; · iexact Lt
  isplitl [Zf]; · iexact Zf
  isplitl [Zt]; · iexact Zt
  iexact HO

/-- The copies of step 5; the fifth block of the result. -/
theorem part37 (w2 w5 : BitVec 32) {Q} :
    iprop(recs (part I) K
        ∗ held c (cB false 4) (lnd (part I) (false, 4) c)
        ∗ held c (cB true 4) (lnd (part I) (true, 4) c)
        ∗ any (peer false c) (cB false 5)
        ∗ any (peer true c) (cB true 5)
        ∗ owesA c (owe c (order.drop 10))
        ∗ toks c (false, 5)
        ∗ toks c (true, 5)
        ∗ any c (oB (rel c 3) 0))
      ⊢ iprop((∀ w0 w1, (owns (c : Thread nD τ) (cB false 4) fullShare.right (lnd (part I) (false, 4) c)
            ∗ owns (c : Thread nD τ) (cB true 4) fullShare.right (lnd (part I) (true, 4) c)
            ∗ cred (tallyAt (sndCell c (false, 5)) () N)
            ∗ cred (tallyAt (sndCell c (true, 5)) () N)
            ∗ owesA c (owe c (order.drop 12))
            ∗ held c (oB (rel c 3) 0) (k0_pay108 (lnd (part I) (false, 4) c)))
            -∗ Q ⟨w0, k0_pay109 (lnd (part I) (true, 4) c), w1⟩)
          -∗ go c (on k0_part37 c w2 w5) Q) := by
  rw [k0_part37_eq_skeleton]
  unfold k0_part37_skel
  iintro ⟨#HR, Lf, Lt, Df, Dt, HO, Kf, Kt, Oa⟩ Hk
  simp only [Prog.lift, Prog.bind_op, Prog.bind_ret, Prog.pure_eq_ret]
  ihave Lf := (owns_halves (c : Thread nD τ) (cB false 4) fullShare (lnd (part I) (false, 4) c)).1 $$ Lf
  icases Lf with ⟨Lfl, Lfr⟩
  ihave Lt := (owns_halves (c : Thread nD τ) (cB true 4) fullShare (lnd (part I) (true, 4) c)).1 $$ Lt
  icases Lt with ⟨Ltl, Ltr⟩
  iapply (wp_send (part I) K c _ (false, 5) 10 rfl (Fin.ext (k0_dev13_eq c)) rfl rfl rfl rfl) $$ [Lfl Df HO Kf]
  · isplitr; · iexact HR
    isplitl [Lfl]; · iexact Lfl
    isplitl [Df]; · iexact Df
    isplitl [HO]; · iexact HO
    iexact Kf
  iintro ⟨Cf, HO⟩
  iapply (wp_send (part I) K c _ (true, 5) 11 rfl (Fin.ext (k0_dev14_eq c)) rfl rfl rfl rfl) $$ [Ltl Dt HO Kt]
  · isplitr; · iexact HR
    isplitl [Ltl]; · iexact Ltl
    isplitl [Dt]; · iexact Dt
    isplitl [HO]; · iexact HO
    iexact Kt
  iintro ⟨Ct, HO⟩
  iapply (getC c false 4 rfl) $$ Lfr
  iintro Lfr
  iapply (putO c (rel c 3) 0 (show k0_off36 c 1#32 = ![(rel c 3).val / 2, 256 * ((rel c 3).val % 2) + 128 * (0 : Fin 2).val, 0] from o36 c 0)) $$ Oa
  iintro Oa
  iapply (getC c true 4 rfl) $$ Ltr
  iintro Ltr
  iapply (wp_fin c)
  iapply Hk $$ %_ %_ [Lfr Ltr Cf Ct HO Oa]
  isplitl [Lfr]; · iexact Lfr
  isplitl [Ltr]; · iexact Ltr
  isplitl [Cf]; · iexact Cf
  isplitl [Ct]; · iexact Ct
  isplitl [HO]; · iexact HO
  iexact Oa

/-- The sixth block of the result; the landings of step 5. -/
theorem part38 (w2 w5 w7 w1362 : BitVec 32) (X : FVec F S128x768 .bf16) (w1365 : BitVec 32) {Q} :
    iprop(recs (part I) K
        ∗ levAts L lv
        ∗ any c (oB (rel c 1) 1)
        ∗ owesA c (owe c (order.drop 12))
        ∗ turn c (true, (false, 5))
        ∗ turn c (true, (true, 5)))
      ⊢ iprop((∀ w0, (held c (oB (rel c 1) 1) (k0_pay110 X)
            ∗ held c (cB false 5) (lnd (part I) (false, 5) c)
            ∗ held c (cB true 5) (lnd (part I) (true, 5) c)
            ∗ semVal (rcvCell c (false, 5)) 0
            ∗ semVal (rcvCell c (true, 5)) 0
            ∗ owesA c (owe c (order.drop 12)))
            -∗ Q w0)
          -∗ go c (on k0_part38 c w2 w5 w7 w1362 X w1365) Q) := by
  rw [k0_part38_eq_skeleton]
  unfold k0_part38_skel
  iintro ⟨#HR, #HL, Oa, HO, Tf, Tt⟩ Hk
  simp only [Prog.lift, Prog.bind_op, Prog.bind_ret, Prog.pure_eq_ret]
  iapply (putO c (rel c 1) 1 (show k0_off37 c 1#32 = ![(rel c 1).val / 2, 256 * ((rel c 1).val % 2) + 128 * (1 : Fin 2).val, 0] from o37 c 0)) $$ Oa
  iintro Oa
  iapply (wp_land (part I) K c (false, 5) 12 (by decide) rfl) $$ [HO Tf]
  · isplitr; · iexact HR
    isplitr; · iexact HL
    isplitl [HO]; · iexact HO
    iexact Tf
  iintro ⟨Lf, Zf, HO⟩
  iapply (wp_land (part I) K c (true, 5) 12 (by decide) rfl) $$ [HO Tt]
  · isplitr; · iexact HR
    isplitr; · iexact HL
    isplitl [HO]; · iexact HO
    iexact Tt
  iintro ⟨Lt, Zt, HO⟩
  iapply (wp_fin c)
  iapply Hk $$ %_ [Oa Lf Lt Zf Zt HO]
  isplitl [Oa]; · iexact Oa
  isplitl [Lf]; · iexact Lf
  isplitl [Lt]; · iexact Lt
  isplitl [Zf]; · iexact Zf
  isplitl [Zt]; · iexact Zt
  iexact HO

/-- The last two blocks of the result. -/
theorem part39 (w2 w1393 : BitVec 32) {Q} :
    iprop(recs (part I) K
        ∗ levAts L lv
        ∗ held c (cB false 5) (lnd (part I) (false, 5) c)
        ∗ held c (cB true 5) (lnd (part I) (true, 5) c)
        ∗ any c (oB (rel c 2) 0)
        ∗ any c (oB (rel c 2) 1)
        ∗ owesA c (owe c (order.drop 12))
        ∗ cred (tallyAt (sndCell c (false, 0)) () N)
        ∗ atPos ER (sndCell c (false, 0)) 0 ∅ 0)
      ⊢ iprop(((held c (cB false 5) (lnd (part I) (false, 5) c)
            ∗ held c (cB true 5) (lnd (part I) (true, 5) c)
            ∗ held c (oB (rel c 2) 0) (k0_pay111 (lnd (part I) (false, 5) c))
            ∗ held c (oB (rel c 2) 1) (k0_pay112 (lnd (part I) (true, 5) c))
            ∗ owns (c : Thread nD τ) (srcB c false 0) (srcQ 0) (snt (part I) false 0 c)
            ∗ semVal (sndCell c (false, 0)) 0
            ∗ owesA c (owe c (order.drop 12)))
            -∗ Q ⟨⟩)
          -∗ go c (on k0_part39 c w2 w1393) Q) := by
  rw [k0_part39_eq_skeleton]
  unfold k0_part39_skel
  iintro ⟨#HR, #HL, Lf, Lt, Oa, Ob, HO, Cf, Af⟩ Hk
  simp only [Prog.lift, Prog.bind_op, Prog.bind_ret, Prog.pure_eq_ret]
  iapply (getC c false 5 rfl) $$ Lf
  iintro Lf
  iapply (putO c (rel c 2) 0 (show k0_off36 c 2#32 = ![(rel c 2).val / 2, 256 * ((rel c 2).val % 2) + 128 * (0 : Fin 2).val, 0] from o36 c 1)) $$ Oa
  iintro Oa
  iapply (getC c true 5 rfl) $$ Lt
  iintro Lt
  iapply (putO c (rel c 2) 1 (show k0_off37 c 2#32 = ![(rel c 2).val / 2, 256 * ((rel c 2).val % 2) + 128 * (1 : Fin 2).val, 0] from o37 c 1)) $$ Ob
  iintro Ob
  iapply (wp_sent (part I) K c (false, 0) rfl) $$ [HO Cf Af]
  · isplitr; · iexact HR
    isplitr; · iexact HL
    isplitl [HO]; · iexact HO
    isplitl [Cf]; · iexact Cf
    iexact Af
  iintro ⟨Sf, Zf, HO⟩
  iapply (wp_fin c)
  iapply Hk
  isplitl [Lf]; · iexact Lf
  isplitl [Lt]; · iexact Lt
  isplitl [Oa]; · iexact Oa
  isplitl [Ob]; · iexact Ob
  isplitl [Sf]; · iexact Sf
  isplitl [Zf]; · iexact Zf
  iexact HO

/-- Copies that have left. -/
theorem part40 {Q} :
    iprop(recs (part I) K
        ∗ levAts L lv
        ∗ owesA c (owe c (order.drop 12))
        ∗ cred (tallyAt (sndCell c (true, 0)) () N)
        ∗ atPos ER (sndCell c (true, 0)) 0 ∅ 0
        ∗ cred (tallyAt (sndCell c (false, 1)) () N)
        ∗ atPos ER (sndCell c (false, 1)) 0 ∅ 0
        ∗ cred (tallyAt (sndCell c (true, 1)) () N)
        ∗ atPos ER (sndCell c (true, 1)) 0 ∅ 0
        ∗ cred (tallyAt (sndCell c (false, 2)) () N)
        ∗ atPos ER (sndCell c (false, 2)) 0 ∅ 0)
      ⊢ iprop(((owns (c : Thread nD τ) (srcB c true 0) (srcQ 0) (snt (part I) true 0 c)
            ∗ semVal (sndCell c (true, 0)) 0
            ∗ owns (c : Thread nD τ) (srcB c false 1) (srcQ 1) (snt (part I) false 1 c)
            ∗ semVal (sndCell c (false, 1)) 0
            ∗ owns (c : Thread nD τ) (srcB c true 1) (srcQ 1) (snt (part I) true 1 c)
            ∗ semVal (sndCell c (true, 1)) 0
            ∗ owns (c : Thread nD τ) (srcB c false 2) (srcQ 2) (snt (part I) false 2 c)
            ∗ semVal (sndCell c (false, 2)) 0
            ∗ owesA c (owe c (order.drop 12)))
            -∗ Q ⟨⟩)
          -∗ go c (on k0_part40 c) Q) := by
  rw [k0_part40_eq_skeleton]
  unfold k0_part40_skel
  iintro ⟨#HR, #HL, HO, Ct0, At0, Cf1, Af1, Ct1, At1, Cf2, Af2⟩ Hk
  simp only [Prog.lift, Prog.bind_op, Prog.bind_ret, Prog.pure_eq_ret]
  iapply (wp_sent (part I) K c (true, 0) rfl) $$ [HO Ct0 At0]
  · isplitr; · iexact HR
    isplitr; · iexact HL
    isplitl [HO]; · iexact HO
    isplitl [Ct0]; · iexact Ct0
    iexact At0
  iintro ⟨St0, Zt0, HO⟩
  iapply (wp_sent (part I) K c (false, 1) rfl) $$ [HO Cf1 Af1]
  · isplitr; · iexact HR
    isplitr; · iexact HL
    isplitl [HO]; · iexact HO
    isplitl [Cf1]; · iexact Cf1
    iexact Af1
  iintro ⟨Sf1, Zf1, HO⟩
  iapply (wp_sent (part I) K c (true, 1) rfl) $$ [HO Ct1 At1]
  · isplitr; · iexact HR
    isplitr; · iexact HL
    isplitl [HO]; · iexact HO
    isplitl [Ct1]; · iexact Ct1
    iexact At1
  iintro ⟨St1, Zt1, HO⟩
  iapply (wp_sent (part I) K c (false, 2) rfl) $$ [HO Cf2 Af2]
  · isplitr; · iexact HR
    isplitr; · iexact HL
    isplitl [HO]; · iexact HO
    isplitl [Cf2]; · iexact Cf2
    iexact Af2
  iintro ⟨Sf2, Zf2, HO⟩
  iapply (wp_fin c)
  iapply Hk
  isplitl [St0]; · iexact St0
  isplitl [Zt0]; · iexact Zt0
  isplitl [Sf1]; · iexact Sf1
  isplitl [Zf1]; · iexact Zf1
  isplitl [St1]; · iexact St1
  isplitl [Zt1]; · iexact Zt1
  isplitl [Sf2]; · iexact Sf2
  isplitl [Zf2]; · iexact Zf2
  iexact HO

/-- Copies that have left. -/
theorem part41 {Q} :
    iprop(recs (part I) K
        ∗ levAts L lv
        ∗ owesA c (owe c (order.drop 12))
        ∗ cred (tallyAt (sndCell c (true, 2)) () N)
        ∗ atPos ER (sndCell c (true, 2)) 0 ∅ 0
        ∗ cred (tallyAt (sndCell c (false, 3)) () N)
        ∗ atPos ER (sndCell c (false, 3)) 0 ∅ 0
        ∗ cred (tallyAt (sndCell c (true, 3)) () N)
        ∗ atPos ER (sndCell c (true, 3)) 0 ∅ 0
        ∗ cred (tallyAt (sndCell c (false, 4)) () N)
        ∗ atPos ER (sndCell c (false, 4)) 0 ∅ 0)
      ⊢ iprop(((owns (c : Thread nD τ) (srcB c true 2) (srcQ 2) (snt (part I) true 2 c)
            ∗ semVal (sndCell c (true, 2)) 0
            ∗ owns (c : Thread nD τ) (srcB c false 3) (srcQ 3) (snt (part I) false 3 c)
            ∗ semVal (sndCell c (false, 3)) 0
            ∗ owns (c : Thread nD τ) (srcB c true 3) (srcQ 3) (snt (part I) true 3 c)
            ∗ semVal (sndCell c (true, 3)) 0
            ∗ owns (c : Thread nD τ) (srcB c false 4) (srcQ 4) (snt (part I) false 4 c)
            ∗ semVal (sndCell c (false, 4)) 0
            ∗ owesA c (owe c (order.drop 12)))
            -∗ Q ⟨⟩)
          -∗ go c (on k0_part41 c) Q) := by
  rw [k0_part41_eq_skeleton]
  unfold k0_part41_skel
  iintro ⟨#HR, #HL, HO, Ct2, At2, Cf3, Af3, Ct3, At3, Cf4, Af4⟩ Hk
  simp only [Prog.lift, Prog.bind_op, Prog.bind_ret, Prog.pure_eq_ret]
  iapply (wp_sent (part I) K c (true, 2) rfl) $$ [HO Ct2 At2]
  · isplitr; · iexact HR
    isplitr; · iexact HL
    isplitl [HO]; · iexact HO
    isplitl [Ct2]; · iexact Ct2
    iexact At2
  iintro ⟨St2, Zt2, HO⟩
  iapply (wp_sent (part I) K c (false, 3) rfl) $$ [HO Cf3 Af3]
  · isplitr; · iexact HR
    isplitr; · iexact HL
    isplitl [HO]; · iexact HO
    isplitl [Cf3]; · iexact Cf3
    iexact Af3
  iintro ⟨Sf3, Zf3, HO⟩
  iapply (wp_sent (part I) K c (true, 3) rfl) $$ [HO Ct3 At3]
  · isplitr; · iexact HR
    isplitr; · iexact HL
    isplitl [HO]; · iexact HO
    isplitl [Ct3]; · iexact Ct3
    iexact At3
  iintro ⟨St3, Zt3, HO⟩
  iapply (wp_sent (part I) K c (false, 4) rfl) $$ [HO Cf4 Af4]
  · isplitr; · iexact HR
    isplitr; · iexact HL
    isplitl [HO]; · iexact HO
    isplitl [Cf4]; · iexact Cf4
    iexact Af4
  iintro ⟨Sf4, Zf4, HO⟩
  iapply (wp_fin c)
  iapply Hk
  isplitl [St2]; · iexact St2
  isplitl [Zt2]; · iexact Zt2
  isplitl [Sf3]; · iexact Sf3
  isplitl [Zf3]; · iexact Zf3
  isplitl [St3]; · iexact St3
  isplitl [Zt3]; · iexact Zt3
  isplitl [Sf4]; · iexact Sf4
  isplitl [Zf4]; · iexact Zf4
  iexact HO

end Parts

end Cert.KernelIdeal.Run

end
-- ==== Proof.KernelIdeal.Body.lean ====
/-
The whole body on one device: its parts one after the other.
-/
module

public import proofs.«01_k».proof.Proof.KernelIdeal.Parts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A family over the twelve steps, one after the other. -/
def all12 (Φ : Stp → sProp 𝕄) : sProp 𝕄 :=
  iprop(Φ (false, 0) ∗ Φ (true, 0) ∗ Φ (false, 1) ∗ Φ (true, 1) ∗ Φ (false, 2) ∗ Φ (true, 2)
    ∗ Φ (false, 3) ∗ Φ (true, 3) ∗ Φ (false, 4) ∗ Φ (true, 4) ∗ Φ (false, 5) ∗ Φ (true, 5))
/-- A family over both accumulators' four blocks, by the distance of the chunk from the device's own. -/
def all8 (Φ : Bool × Fin 4 → sProp 𝕄) : sProp 𝕄 :=
  iprop(Φ (false, 0) ∗ Φ (true, 0) ∗ Φ (false, 1) ∗ Φ (true, 1) ∗ Φ (false, 2) ∗ Φ (true, 2) ∗ Φ (false, 3) ∗ Φ (true, 3))
/-- A family over the result's eight blocks, by the distance of the chunk and the half. -/
def all42 (Φ : Fin 4 × Fin 2 → sProp 𝕄) : sProp 𝕄 :=
  iprop(Φ (0, 0) ∗ Φ (0, 1) ∗ Φ (1, 0) ∗ Φ (1, 1) ∗ Φ (2, 0) ∗ Φ (2, 1) ∗ Φ (3, 0) ∗ Φ (3, 1))

theorem all12_eq (Φ : Stp → sProp 𝕄) : bigSep Finset.univ Φ = all12 (F := F) Φ :=
  bigSep_univ_eq_bigSepL order (by decide) (by decide) Φ
theorem all8_eq (Φ : Bool × Fin 4 → sProp 𝕄) : bigSep Finset.univ Φ = all8 (F := F) Φ :=
  bigSep_univ_eq_bigSepL [(false, 0), (true, 0), (false, 1), (true, 1), (false, 2), (true, 2), (false, 3), (true, 3)] (by decide) (by decide) Φ
theorem all42_eq (Φ : Fin 4 × Fin 2 → sProp 𝕄) : bigSep Finset.univ Φ = all42 (F := F) Φ :=
  bigSep_univ_eq_bigSepL [(0, 0), (0, 1), (1, 0), (1, 1), (2, 0), (2, 1), (3, 0), (3, 1)] (by decide) (by decide) Φ

/-- The block of the result at the chunk `r` places after the device's own, half `l`. -/
def outV (P : Bool → Dev nD → ℕ → Vec F S1x128x768 .bf16) (c : Dev nD) : Fin 4 × Fin 2 → Vec F S1x128x768 .f32
  | (0, 0) => k0_pay105 (lnd P (false, 3) c)
  | (0, 1) => k0_pay107 (k0_pay106 (lnd P (true, 3) c))
  | (1, 0) => k0_pay102 (k0_pay98 (k0_pay97 (P false c 1)) (lnd P (false, 2) c))
  | (1, 1) => k0_pay110 (k0_pay109 (lnd P (true, 4) c))
  | (2, 0) => k0_pay111 (lnd P (false, 5) c)
  | (2, 1) => k0_pay112 (lnd P (true, 5) c)
  | (3, 0) => k0_pay108 (lnd P (false, 4) c)
  | (3, 1) => k0_pay104 (k0_pay103 (k0_pay100 (P true c 3) (lnd P (true, 2) c)))

/-- A part before the rest of the program. -/
theorem wp_bi (c : Dev nD) {α β : Type} {p : Prog (TpuEff nD τ sig (Elt F) Λ₀ .tc) α} {k : α → Prog (TpuEff nD τ sig (Elt F) Λ₀ .tc) β}
    {Q : β → sProp 𝕄} : go c p (fun a => go c (k a) Q) ⊢ go c (p >>= k) Q :=
  Entails.of_eq (wp_bind _ _ _ p k Q).symm

/-- A part that only reads, before the rest of the program. -/
theorem wp_part {c : Dev nD} {I : Ins F} {α β : Type} {p : Prog (TpuEff nD τ sig (Elt F) Λ₀ .tc) α} {a : α} (h : Reads I p (.ret a))
    {k : α → Prog (TpuEff nD τ sig (Elt F) Λ₀ .tc) β} {Q : β → sProp 𝕄} :
    insAt c I ⊢ iprop((insAt c I -∗ go c (k a) Q) -∗ go c (p >>= k) Q) := by
  iintro HI Hk
  iapply (wp_bi c)
  iapply (wp_reads h) $$ HI
  iintro HI
  iapply (wp_fin c)
  iapply Hk
  iexact HI

/-- What device `c` starts the body with, besides the records and the levels. -/
def bodyPre (I : Dev nD → Ins F) (c : Dev nD) : sProp 𝕄 :=
  iprop(owesA c (O₀ c)
    ∗ (dutyTok ER (barCell (peer true c)) 0 false ∗ dutyTok ER (barCell (peer false c)) 0 true
      ∗ cred (tallyAt (barCell c) () 2) ∗ atPos ER (barCell c) 0 ∅ 0)
    ∗ barPay (peer true c) false ∗ barPay (peer false c) true ∗ insAt c (I c)
    ∗ all12 (toks c) ∗ all12 (fun j => turn c (true, j)) ∗ all12 (fun j => atPos ER (sndCell c j) 0 ∅ 0)
    ∗ all8 (fun dk => any c (aB dk.1 (rel c dk.2.val))) ∗ all42 (fun j => any c (oB (rel c j.1.val) j.2)))

/-- What it ends the body with. -/
def bodyPost (I : Dev nD → Ins F) (c : Dev nD) : sProp 𝕄 :=
  iprop(owesA c 0 ∗ semVal (barCell c) 0 ∗ all12 (fun j => semVal (sndCell c j) 0) ∗ all12 (fun j => semVal (rcvCell c j) 0) ∗ insAt c (I c)
    ∗ all12 (fun j => any c (cB j.1 j.2)) ∗ all8 (fun dk => any c (aB dk.1 (rel c dk.2.val)))
    ∗ all42 (fun j => held c (oB (rel c j.1.val) j.2) (outV (part I) c j)))

section
variable (I : Dev nD → Ins F) (K : Dev nD × CK → ℕ) (c : Dev nD)

open Val in
set_option maxRecDepth 4000 in
/-- The body on device `c`. -/
theorem body_run {Q} :
    iprop(recs (part I) K ∗ levAts L lv ∗ bodyPre I c)
      ⊢ iprop((bodyPost I c -∗ Q ⟨⟩) -∗ go c (on (cc0_body (F := F))) Q) := by
  rw [cc0_body_eq_skeleton]
  unfold cc0_body_skel
  rw [k0_part42_eq_skeleton]
  unfold k0_part42_skel bodyPre all12 all8 all42
  iintro ⟨#HR, #HL, HO, Hb, Hp1, Hp2, HI, ⟨Kf0, Kt0, Kf1, Kt1, Kf2, Kt2, Kf3, Kt3, Kf4, Kt4, Kf5, Kt5⟩, ⟨Tf0, Tt0, Tf1, Tt1, Tf2, Tt2, Tf3, Tt3, Tf4, Tt4, Tf5, Tt5⟩,
    ⟨Af0, At0, Af1, At1, Af2, At2, Af3, At3, Af4, At4, Af5, At5⟩, ⟨Hf0, Ht0, Hf1, Ht1, Hf2, Ht2, Hf3, Ht3⟩, ⟨O00, O01, O10, O11, O20, O21, O30, O31⟩⟩ Hk
  dsimp only [on]
  simp only [bind_assoc]
  iapply (wp_bi c)
  iapply (part1 I K c) $$ [HO Hb Hp1 Hp2 HI]
  · isplitr; · iexact HR
    isplitr; · iexact HL
    isplitl [HO]; · iexact HO
    isplitl [Hb]; · iexact Hb
    isplitl [Hp1]; · iexact Hp1
    isplitl [Hp2]; · iexact Hp2
    iexact HI
  iintro ⟨Df, Dt, Zb, HO, HI⟩; try dsimp only
  unfold barPay
  icases Df with ⟨Df0, Df1, Df2, Df3, Df4, Df5⟩
  icases Dt with ⟨Dt0, Dt1, Dt2, Dt3, Dt4, Dt5⟩
  iapply (wp_part (reads2 c (I c))) $$ HI; iintro HI; try dsimp only
  iapply (wp_part (reads3 c (I c))) $$ HI; iintro HI; try dsimp only
  iapply (wp_part (reads4 c (I c))) $$ HI; iintro HI; try dsimp only
  iapply (wp_part (reads5 c (I c))) $$ HI; iintro HI; try dsimp only
  iapply (wp_part (reads6 c (I c))) $$ HI; iintro HI; try dsimp only
  iapply (wp_bi c)
  iapply (part7 I c) $$ [HI Hf0 Ht0]
  · isplitl [HI]; · iexact HI
    isplitl [Hf0]; · iexact Hf0
    iexact Ht0
  iintro ⟨HI, Hf0, Ht0⟩; try dsimp only
  iapply (wp_bi c)
  iapply (part8 I K c) $$ [HI Hf0 Ht0 Df0 Dt0 HO Kf0 Kt0]
  · isplitr; · iexact HR
    isplitl [HI]; · iexact HI
    isplitl [Hf0]; · iexact Hf0
    isplitl [Ht0]; · iexact Ht0
    isplitl [Df0]; · iexact Df0
    isplitl [Dt0]; · iexact Dt0
    isplitl [HO]; · iexact HO
    isplitl [Kf0]; · iexact Kf0
    iexact Kt0
  iintro ⟨HI, Cf0, Ct0, HO⟩; try dsimp only
  iapply (wp_part (reads9 c (I c))) $$ HI; iintro HI; try dsimp only
  iapply (wp_part (reads10 c (I c))) $$ HI; iintro HI; try dsimp only
  iapply (wp_part (reads11 c (I c))) $$ HI; iintro HI; try dsimp only
  iapply (wp_part (reads12 c (I c))) $$ HI; iintro HI; try dsimp only
  iapply (wp_part (reads13 c (I c))) $$ HI; iintro HI; try dsimp only
  iapply (wp_bi c)
  iapply (part14 I c) $$ [HI Hf1 Ht1]
  · isplitl [HI]; · iexact HI
    isplitl [Hf1]; · iexact Hf1
    iexact Ht1
  iintro ⟨HI, Hf1, Ht1⟩; try dsimp only
  iapply (wp_part (reads15 c (I c))) $$ HI; iintro HI; try dsimp only
  iapply (wp_part (reads16 c (I c))) $$ HI; iintro HI; try dsimp only
  iapply (wp_part (reads17 c (I c))) $$ HI; iintro HI; try dsimp only
  iapply (wp_part (reads18 c (I c))) $$ HI; iintro HI; try dsimp only
  iapply (wp_part (reads19 c (I c))) $$ HI; iintro HI; try dsimp only
  iapply (wp_bi c)
  iapply (part20 I c) $$ [HI Hf3]
  · isplitl [HI]; · iexact HI
    iexact Hf3
  iintro ⟨HI, Hf3⟩; try dsimp only
  iapply (wp_bi c)
  iapply (part21 I K c) $$ [Hf3 Ht3 HO Tf0]
  · isplitr; · iexact HR
    isplitr; · iexact HL
    isplitl [Hf3]; · iexact Hf3
    isplitl [Ht3]; · iexact Ht3
    isplitl [HO]; · iexact HO
    iexact Tf0
  iintro ⟨Hf3, Ht3, Lf0, Zf0, HO⟩; try dsimp only
  iapply (wp_bi c)
  iapply (part22 I K c) $$ [Ht1 HO Tt0 Hf3 Df1 Kf1]
  · isplitr; · iexact HR
    isplitr; · iexact HL
    isplitl [Ht1]; · iexact Ht1
    isplitl [HO]; · iexact HO
    isplitl [Tt0]; · iexact Tt0
    isplitl [Hf3]; · iexact Hf3
    isplitl [Df1]; · iexact Df1
    iexact Kf1
  iintro ⟨Ht1, Lt0, Zt0, HO, Cf1⟩; try dsimp only
  iapply (wp_bi c)
  iapply (part23 I K c) $$ [HI Ht1 Dt1 HO Kt1]
  · isplitr; · iexact HR
    isplitl [HI]; · iexact HI
    isplitl [Ht1]; · iexact Ht1
    isplitl [Dt1]; · iexact Dt1
    isplitl [HO]; · iexact HO
    iexact Kt1
  iintro ⟨HI, Ct1, HO⟩; try dsimp only
  iapply (wp_part (reads24 c (I c))) $$ HI; iintro HI; try dsimp only
  iapply (wp_part (reads25 c (I c))) $$ HI; iintro HI; try dsimp only
  iapply (wp_part (reads26 c (I c))) $$ HI; iintro HI; try dsimp only
  iapply (wp_part (reads27 c (I c))) $$ HI; iintro HI; try dsimp only
  iapply (wp_part (reads28 c (I c))) $$ HI; iintro HI; try dsimp only
  iapply (wp_bi c)
  iapply (part29 I K c) $$ [Hf2 Ht2 HO Tf1]
  · isplitr; · iexact HR
    isplitr; · iexact HL
    isplitl [Hf2]; · iexact Hf2
    isplitl [Ht2]; · iexact Ht2
    isplitl [HO]; · iexact HO
    iexact Tf1
  iintro %w29_0 ⟨Hf2, Ht2, Lf1, Zf1, HO⟩; try dsimp only
  iapply (wp_bi c)
  iapply (part30 I K c) $$ [Hf2 Ht2 Lf1 HO Tt1]
  · isplitr; · iexact HR
    isplitr; · iexact HL
    isplitl [Hf2]; · iexact Hf2
    isplitl [Ht2]; · iexact Ht2
    isplitl [Lf1]; · iexact Lf1
    isplitl [HO]; · iexact HO
    iexact Tt1
  iintro ⟨Hf2, Ht2, Lf1, Lt1, Zt1, HO⟩; try dsimp only
  iapply (wp_bi c)
  iapply (part31 I K c) $$ [Hf2 Ht2 Df2 Dt2 HO Kf2 Kt2 Tf2 Hf1]
  · isplitr; · iexact HR
    isplitr; · iexact HL
    isplitl [Hf2]; · iexact Hf2
    isplitl [Ht2]; · iexact Ht2
    isplitl [Df2]; · iexact Df2
    isplitl [Dt2]; · iexact Dt2
    isplitl [HO]; · iexact HO
    isplitl [Kf2]; · iexact Kf2
    isplitl [Kt2]; · iexact Kt2
    isplitl [Tf2]; · iexact Tf2
    iexact Hf1
  iintro %w31_0 ⟨Cf2, Ct2, HO, Lf2, Zf2, Hf1⟩; try dsimp only
  iapply (wp_bi c)
  iapply (part32 I K c) $$ [Hf1 Ht3 Lf2 HO Tt2]
  · isplitr; · iexact HR
    isplitr; · iexact HL
    isplitl [Hf1]; · iexact Hf1
    isplitl [Ht3]; · iexact Ht3
    isplitl [Lf2]; · iexact Lf2
    isplitl [HO]; · iexact HO
    iexact Tt2
  iintro %w32_0 ⟨Hf1, Ht3, Lf2, Lt2, Zt2, HO⟩; try dsimp only
  iapply (wp_bi c)
  iapply (part33 I K c) $$ [Hf1 Ht3 Df3 Dt3 HO Kf3 Kt3 O10 O31]
  · isplitr; · iexact HR
    isplitl [Hf1]; · iexact Hf1
    isplitl [Ht3]; · iexact Ht3
    isplitl [Df3]; · iexact Df3
    isplitl [Dt3]; · iexact Dt3
    isplitl [HO]; · iexact HO
    isplitl [Kf3]; · iexact Kf3
    isplitl [Kt3]; · iexact Kt3
    isplitl [O10]; · iexact O10
    iexact O31
  iintro ⟨Cf3, Ct3, HO, O10, O31⟩; try dsimp only
  iapply (wp_bi c)
  iapply (part34 I K c) $$ [O31 HO Tf3 Tt3 Df4 Kf4]
  · isplitr; · iexact HR
    isplitr; · iexact HL
    isplitl [O31]; · iexact O31
    isplitl [HO]; · iexact HO
    isplitl [Tf3]; · iexact Tf3
    isplitl [Tt3]; · iexact Tt3
    isplitl [Df4]; · iexact Df4
    iexact Kf4
  iintro ⟨O31, Lf3, Lt3, Zf3, Zt3, Cf4, HO⟩; try dsimp only
  iapply (wp_bi c)
  iapply (part35 I K c) $$ [Lf3 Lt3 Dt4 HO Kt4 O00]
  · isplitr; · iexact HR
    isplitl [Lf3]; · iexact Lf3
    isplitl [Lt3]; · iexact Lt3
    isplitl [Dt4]; · iexact Dt4
    isplitl [HO]; · iexact HO
    isplitl [Kt4]; · iexact Kt4
    iexact O00
  iintro ⟨Lf3, Lt3, Ct4, HO, O00⟩; try dsimp only
  iapply (wp_bi c)
  iapply (part36 I K c) $$ [O01 HO Tf4 Tt4]
  · isplitr; · iexact HR
    isplitr; · iexact HL
    isplitl [O01]; · iexact O01
    isplitl [HO]; · iexact HO
    isplitl [Tf4]; · iexact Tf4
    iexact Tt4
  iintro ⟨O01, Lf4, Lt4, Zf4, Zt4, HO⟩; try dsimp only
  iapply (wp_bi c)
  iapply (part37 I K c) $$ [Lf4 Lt4 Df5 Dt5 HO Kf5 Kt5 O30]
  · isplitr; · iexact HR
    isplitl [Lf4]; · iexact Lf4
    isplitl [Lt4]; · iexact Lt4
    isplitl [Df5]; · iexact Df5
    isplitl [Dt5]; · iexact Dt5
    isplitl [HO]; · iexact HO
    isplitl [Kf5]; · iexact Kf5
    isplitl [Kt5]; · iexact Kt5
    iexact O30
  iintro %w37_0 %w37_1 ⟨Lf4, Lt4, Cf5, Ct5, HO, O30⟩; try dsimp only
  iapply (wp_bi c)
  iapply (part38 I K c) $$ [O11 HO Tf5 Tt5]
  · isplitr; · iexact HR
    isplitr; · iexact HL
    isplitl [O11]; · iexact O11
    isplitl [HO]; · iexact HO
    isplitl [Tf5]; · iexact Tf5
    iexact Tt5
  iintro %w38_0 ⟨O11, Lf5, Lt5, Zf5, Zt5, HO⟩; try dsimp only
  iapply (wp_bi c)
  iapply (part39 I K c) $$ [Lf5 Lt5 O20 O21 HO Cf0 Af0]
  · isplitr; · iexact HR
    isplitr; · iexact HL
    isplitl [Lf5]; · iexact Lf5
    isplitl [Lt5]; · iexact Lt5
    isplitl [O20]; · iexact O20
    isplitl [O21]; · iexact O21
    isplitl [HO]; · iexact HO
    isplitl [Cf0]; · iexact Cf0
    iexact Af0
  iintro ⟨Lf5, Lt5, O20, O21, Sf0, Yf0, HO⟩; try dsimp only
  iapply (wp_bi c)
  iapply (part40 I K c) $$ [HO Ct0 At0 Cf1 Af1 Ct1 At1 Cf2 Af2]
  · isplitr; · iexact HR
    isplitr; · iexact HL
    isplitl [HO]; · iexact HO
    isplitl [Ct0]; · iexact Ct0
    isplitl [At0]; · iexact At0
    isplitl [Cf1]; · iexact Cf1
    isplitl [Af1]; · iexact Af1
    isplitl [Ct1]; · iexact Ct1
    isplitl [At1]; · iexact At1
    isplitl [Cf2]; · iexact Cf2
    iexact Af2
  iintro ⟨St0, Yt0, Sf1, Yf1, St1, Yt1, Sf2, Yf2, HO⟩; try dsimp only
  iapply (wp_bi c)
  iapply (part41 I K c) $$ [HO Ct2 At2 Cf3 Af3 Ct3 At3 Cf4 Af4]
  · isplitr; · iexact HR
    isplitr; · iexact HL
    isplitl [HO]; · iexact HO
    isplitl [Ct2]; · iexact Ct2
    isplitl [At2]; · iexact At2
    isplitl [Cf3]; · iexact Cf3
    isplitl [Af3]; · iexact Af3
    isplitl [Ct3]; · iexact Ct3
    isplitl [At3]; · iexact At3
    isplitl [Cf4]; · iexact Cf4
    iexact Af4
  iintro ⟨St2, Yt2, Sf3, Yf3, St3, Yt3, Sf4, Yf4, HO⟩; try dsimp only
  simp only [Prog.lift, Prog.bind_op, Prog.bind_ret, Prog.pure_eq_ret]
  iapply (wp_sent (part I) K c (true, 4) rfl) $$ [HO Ct4 At4]
  · isplitr; · iexact HR
    isplitr; · iexact HL
    isplitl [HO]; · iexact HO
    isplitl [Ct4]; · iexact Ct4
    iexact At4
  iintro ⟨St4, Yt4, HO⟩
  iapply (wp_sent (part I) K c (false, 5) rfl) $$ [HO Cf5 Af5]
  · isplitr; · iexact HR
    isplitr; · iexact HL
    isplitl [HO]; · iexact HO
    isplitl [Cf5]; · iexact Cf5
    iexact Af5
  iintro ⟨Sf5, Yf5, HO⟩
  iapply (wp_sent (part I) K c (true, 5) rfl) $$ [HO Ct5 At5]
  · isplitr; · iexact HR
    isplitr; · iexact HL
    isplitl [HO]; · iexact HO
    isplitl [Ct5]; · iexact Ct5
    iexact At5
  iintro ⟨St5, Yt5, HO⟩
  iapply (wp_fin c)
  ihave Lf3 := (owns_halves (c : Thread nD τ) (cB false 3) fullShare (lnd (part I) (false, 3) c)).2 $$ [Sf4 Lf3]
  · isplitl [Sf4]; · iexact Sf4
    iexact Lf3
  ihave Lf4 := (owns_halves (c : Thread nD τ) (cB false 4) fullShare (lnd (part I) (false, 4) c)).2 $$ [Sf5 Lf4]
  · isplitl [Sf5]; · iexact Sf5
    iexact Lf4
  ihave Lt3 := (owns_halves (c : Thread nD τ) (cB true 3) fullShare (lnd (part I) (true, 3) c)).2 $$ [St4 Lt3]
  · isplitl [St4]; · iexact St4
    iexact Lt3
  ihave Lt4 := (owns_halves (c : Thread nD τ) (cB true 4) fullShare (lnd (part I) (true, 4) c)).2 $$ [St5 Lt4]
  · isplitl [St5]; · iexact St5
    iexact Lt4
  iapply Hk
  unfold bodyPost all12 all8 all42
  isplitl [HO]; · iexact HO
  isplitl [Zb]; · iexact Zb
  isplitl [Yf0 Yt0 Yf1 Yt1 Yf2 Yt2 Yf3 Yt3 Yf4 Yt4 Yf5 Yt5]
  · isplitl [Yf0]; · iexact Yf0
    isplitl [Yt0]; · iexact Yt0
    isplitl [Yf1]; · iexact Yf1
    isplitl [Yt1]; · iexact Yt1
    isplitl [Yf2]; · iexact Yf2
    isplitl [Yt2]; · iexact Yt2
    isplitl [Yf3]; · iexact Yf3
    isplitl [Yt3]; · iexact Yt3
    isplitl [Yf4]; · iexact Yf4
    isplitl [Yt4]; · iexact Yt4
    isplitl [Yf5]; · iexact Yf5
    iexact Yt5
  isplitl [Zf0 Zt0 Zf1 Zt1 Zf2 Zt2 Zf3 Zt3 Zf4 Zt4 Zf5 Zt5]
  · isplitl [Zf0]; · iexact Zf0
    isplitl [Zt0]; · iexact Zt0
    isplitl [Zf1]; · iexact Zf1
    isplitl [Zt1]; · iexact Zt1
    isplitl [Zf2]; · iexact Zf2
    isplitl [Zt2]; · iexact Zt2
    isplitl [Zf3]; · iexact Zf3
    isplitl [Zt3]; · iexact Zt3
    isplitl [Zf4]; · iexact Zf4
    isplitl [Zt4]; · iexact Zt4
    isplitl [Zf5]; · iexact Zf5
    iexact Zt5
  isplitl [HI]; · iexact HI
  isplitl [Lf0 Lt0 Lf1 Lt1 Lf2 Lt2 Lf3 Lt3 Lf4 Lt4 Lf5 Lt5]
  · isplitl [Lf0]; · iexists _; iexact Lf0
    isplitl [Lt0]; · iexists _; iexact Lt0
    isplitl [Lf1]; · iexists _; iexact Lf1
    isplitl [Lt1]; · iexists _; iexact Lt1
    isplitl [Lf2]; · iexists _; iexact Lf2
    isplitl [Lt2]; · iexists _; iexact Lt2
    isplitl [Lf3]; · iexists _; iexact Lf3
    isplitl [Lt3]; · iexists _; iexact Lt3
    isplitl [Lf4]; · iexists _; iexact Lf4
    isplitl [Lt4]; · iexists _; iexact Lt4
    isplitl [Lf5]; · iexists _; iexact Lf5
    iexists _; iexact Lt5
  isplitl [Sf0 St0 Sf3 St1 Sf2 St2 Sf1 St3]
  · isplitl [Sf0]; · iexists _; iexact Sf0
    isplitl [St0]; · iexists _; iexact St0
    isplitl [Sf3]; · iexists _; iexact Sf3
    isplitl [St1]; · iexists _; iexact St1
    isplitl [Sf2]; · iexists _; iexact Sf2
    isplitl [St2]; · iexists _; iexact St2
    isplitl [Sf1]; · iexists _; iexact Sf1
    iexists _; iexact St3
  isplitl [O00]; · iexact O00
  isplitl [O01]; · iexact O01
  isplitl [O10]; · iexact O10
  isplitl [O11]; · iexact O11
  isplitl [O20]; · iexact O20
  isplitl [O21]; · iexact O21
  isplitl [O30]; · iexact O30
  iexact O31

end

end Cert.KernelIdeal.Run

end
-- ==== Proof.KernelIdeal.Blocks.lean ====
/-
The buffers cut into their blocks, and put together again.

The launch hands a device its accumulators, its landing areas and the result's buffer whole; the body works on their
blocks, those of the accumulators and of the result named by how far a chunk lies after the device's own.
-/
module

public import proofs.«01_k».proof.Proof.KernelIdeal.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Cut
variable {c : Dev nD} {s : Shape} {e : EltTy} {M : Memref sig .tc .vmem s e} {J : Type} [Fintype J] [DecidableEq J] (r : J → Rect s)
  (hr : ∀ t a, (r t).stride a = 1) (hd : ∀ t t', t ≠ t' → Disjoint (r t).set (r t').set)
  (hcov : (Finset.univ : Finset J).biUnion (fun t => (r t).set) = Finset.univ)

include hd hcov in
/-- A buffer is its blocks. -/
theorem any_cut : (any (F := F) c M : sProp 𝕄) ⊢ bigSep Finset.univ fun t => any c (M.slice (r t) (hr t)) := by
  iintro ⟨%X, H⟩
  ihave H := (owns_rects (c : Thread nD τ) M fullShare r hr hd hcov X) $$ H
  have h (t : J) : (held c (M.slice (r t) (hr t)) (fun j => X ((r t).emb j)) : sProp 𝕄) ⊢ any c (M.slice (r t) (hr t)) := by
    iintro H; iexists _; iexact H
  have h' : (bigSep Finset.univ fun t => held c (M.slice (r t) (hr t)) (fun j => X ((r t).emb j)) : sProp 𝕄)
      ⊢ bigSep Finset.univ fun t => any c (M.slice (r t) (hr t)) := bigSep_mono fun t _ => h t
  iapply h'
  iexact H

include hd in
/-- Blocks held at arrays make the buffer held at the array glued from them. -/
theorem held_glue (Z : (t : J) → (r t).shape.Idx → Elt F e) :
    (bigSep Finset.univ fun t => held c (M.slice (r t) (hr t)) (Z t) : sProp 𝕄) ⊢ held c M (Rect.glue r hcov Z) := by
  rw [bigSep_congr fun t _ => show (held c (M.slice (r t) (hr t)) (Z t) : sProp 𝕄)
    = held c (M.slice (r t) (hr t)) (fun j => Rect.glue r hcov Z ((r t).emb j)) from by
      rw [show (fun j => Rect.glue r hcov Z ((r t).emb j)) = Z t from funext fun j => Rect.glue_emb r hcov hd Z t j]]
  exact owns_of_rects (c : Thread nD τ) M fullShare r hr hd hcov (Rect.glue r hcov Z)

include hd hcov in
theorem any_glue : (bigSep Finset.univ fun t => any (F := F) c (M.slice (r t) (hr t)) : sProp 𝕄) ⊢ any c M := by
  iintro H
  ihave H := (bigSep_exists_pi Finset.univ (fun t (X : (r t).shape.Idx → Elt F e) => (held c (M.slice (r t) (hr t)) X : sProp 𝕄))) $$ H
  icases H with ⟨%Z, H⟩
  iexists _
  iapply (held_glue r hr hd hcov Z)
  iexact H

end Cut

/-- How far after the device's own chunk chunk `k` lies, -/
def dist (c : Dev nD) (k : Fin 4) : Fin 4 := ⟨(k.val + 4 - c.val) % 4, Nat.mod_lt _ (by decide)⟩
/-- and the chunks by that distance. -/
def relE (c : Dev nD) : Fin 4 ≃ Fin 4 :=
  ⟨fun r => rel c r.val, dist c, fun r => by revert c r; decide, fun k => by revert c k; decide⟩

theorem rel_dist (c : Dev nD) (k : Fin 4) : rel c (dist c k).val = k := (relE c).right_inv k

variable (c : Dev nD)

theorem acc_eq (Φ : Bool × Fin 4 → sProp 𝕄) :
    all8 (F := F) (fun dk => Φ (dk.1, rel c dk.2.val)) = bigSep Finset.univ fun d : Bool => bigSep Finset.univ fun k : Fin 4 => Φ (d, k) := by
  rw [← all8_eq, bigSep_univ_prod]
  exact bigSep_congr fun d _ => (bigSep_univ_equiv (relE c) fun k => Φ (d, k)).symm

theorem out_eq (Φ : Fin 4 × Fin 2 → sProp 𝕄) :
    all42 (F := F) (fun j => Φ (rel c j.1.val, j.2)) = bigSep Finset.univ Φ := by
  rw [← all42_eq, bigSep_univ_prod Φ, bigSep_univ_equiv (relE c), bigSep_univ_prod]; rfl

theorem bool_eq (Φ : Bool → sProp 𝕄) : bigSep Finset.univ Φ = iprop(Φ false ∗ Φ true) := by
  rw [bigSep_univ_eq_bigSepL [false, true] (by decide) (by decide), bigSepL_cons_cons, bigSepL_singleton]; rfl

theorem all12_by (Φ : Stp → sProp 𝕄) :
    all12 (F := F) Φ = iprop((bigSep Finset.univ fun h => Φ (false, h)) ∗ bigSep Finset.univ fun h => Φ (true, h)) := by
  rw [← all12_eq, bigSep_univ_prod, bool_eq]

/-- The accumulators cut, -/
theorem acc_cut : iprop(any (F := F) c (aM false) ∗ any c (aM true)) ⊢ (all8 (fun dk => any c (aB dk.1 (rel c dk.2.val))) : sProp 𝕄) := by
  rw [acc_eq c (fun dk => any (F := F) c (aB dk.1 dk.2)), bool_eq]
  iintro ⟨H1, H2⟩
  isplitl [H1]
  · iapply (any_cut rA (fun _ _ => rfl) rA_disjoint rA_cover); iexact H1
  · iapply (any_cut rA (fun _ _ => rfl) rA_disjoint rA_cover); iexact H2
/-- and joined; -/
theorem acc_glue : (all8 (fun dk => any (F := F) c (aB dk.1 (rel c dk.2.val))) : sProp 𝕄) ⊢ iprop(any c (aM false) ∗ any c (aM true)) := by
  rw [acc_eq c (fun dk => any (F := F) c (aB dk.1 dk.2)), bool_eq]
  iintro ⟨H1, H2⟩
  isplitl [H1]
  · iapply (any_glue rA (fun _ _ => rfl) rA_disjoint rA_cover); iexact H1
  · iapply (any_glue rA (fun _ _ => rfl) rA_disjoint rA_cover); iexact H2

theorem six_eq (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- a landing area cut, handed to the device whose copies land there, -/
theorem land_cut (d : Bool) : any (F := F) c (cM d) ⊢ (barPay (from' d c) d : sProp 𝕄) := by
  unfold barPay
  rw [peer_from]
  iintro H
  ihave H := (any_cut (M := cM d) rC (fun _ _ => rfl) rC_disjoint rC_cover) $$ H
  iapply (Entails.of_eq (six_eq (fun h : Fin 6 => any (F := F) c (cB d h))))
  iexact H
/-- and both landing areas joined; -/
theorem land_glue : (all12 (fun j => any (F := F) c (cB j.1 j.2)) : sProp 𝕄) ⊢ iprop(any c (cM false) ∗ any c (cM true)) := by
  rw [all12_by]
  iintro ⟨H1, H2⟩
  isplitl [H1]
  · iapply (any_glue rC (fun _ _ => rfl) rC_disjoint rC_cover); iexact H1
  · iapply (any_glue rC (fun _ _ => rfl) rC_disjoint rC_cover); iexact H2

/-- the result's buffer cut, -/
theorem out_cut : any (F := F) c oM ⊢ (all42 (fun j => any c (oB (rel c j.1.val) j.2)) : sProp 𝕄) := by
  rw [out_eq c (fun j => any (F := F) c (oB j.1 j.2))]
  exact any_cut rO (fun _ _ => rfl) rO_disjoint rO_cover

/-- The result on device `c`, block by block. -/
def outAt (P : Bool → Dev nD → ℕ → Vec F S1x128x768 .bf16) (c : Dev nD) : Vec F S2x512x768 .f32 :=
  Rect.glue rO rO_cover fun j => outV P c (dist c j.1, j.2)

/-- and joined at the result. -/
theorem out_glue (P : Bool → Dev nD → ℕ → Vec F S1x128x768 .bf16) :
    (all42 (fun j => held c (oB (rel c j.1.val) j.2) (outV P c j)) : sProp 𝕄) ⊢ held c oM (outAt P c) := by
  have e : (all42 (F := F) (fun j => held c (oB (rel c j.1.val) j.2) (outV P c j)) : sProp 𝕄)
      = all42 (F := F) (fun j => held c (oB (rel c j.1.val) j.2) (outV P c (dist c (rel c j.1.val), j.2))) := by
    rw [← all42_eq, ← all42_eq]
    exact bigSep_congr fun j _ => by rw [show dist c (rel c j.1.val) = j.1 from (relE c).left_inv j.1]
  rw [e, out_eq c (fun j => held c (oB j.1 j.2) (outV P c (dist c j.1, j.2)))]
  exact held_glue rO (fun _ _ => rfl) rO_disjoint rO_cover _

end Cert.KernelIdeal.Run

end
-- ==== Proof.KernelIdeal.Launch.lean ====
/-
The launch: the cells' ghost state made and dealt around the two rings, the credits, and the whole run.

Every device starts with the tokens of the duties it pays: one on each neighbour's barrier cell, and for each of its
twelve copies the one on its own send cell and the one on the receiver's cell. It ends with every counter at zero, its
inputs as they were and its result block by block.
-/
module

public import proofs.«01_k».proof.Proof.KernelIdeal.Blocks
public import proofs.«01_k».proof.Proof.Gen.KernelIdeal.Frame
public import proofs.«01_k».proof.Proof.Gen.KernelIdeal.Points

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s input buffers hold once fetched. -/
def inp (c : Dev nD) : Ins F := fun
  | 0 => iblk m c 0 t0_0 | 1 => iblk m c 1 t0_0 | 2 => iblk m c 2 t0_0 | 3 => iblk m c 3 t0_0 | 4 => iblk m c 4 t0_0

/-- The devices' partial products from there. -/
abbrev PP : Bool → Dev nD → ℕ → Vec F S1x128x768 .bf16 := part (inp m)

/-! ## What a device starts from, and ends with -/

/-- The tokens it pays with, and its places in its own cells. -/
def linear (c : Dev nD) : sProp 𝕄 :=
  iprop((bigSep Finset.univ fun k : CK => atPos ER (kcell (c, k)) 0 ∅ 0)
    ∗ dutyTok ER (barCell (peer true c)) 0 false ∗ dutyTok ER (barCell (peer false c)) 0 true ∗ bigSep Finset.univ (toks c))

/-- Its credits. -/
def crd (c : Dev nD) : sProp 𝕄 :=
  iprop(cred (tallyAt (barCell c) () 2) ∗ bigSep Finset.univ fun j : Stp => cred (tallyAt (rcvCell c j) () N))

def start (c : Dev nD) : sProp 𝕄 := iprop((∃ K, recs (PP m) K ∗ linear c) ∗ crd c ∗ levAts L lv)

/-- Its buffers of its own. -/
def own4 (c : Dev nD) : sProp 𝕄 :=
  iprop(any c (aM false) ∗ any c (aM true) ∗ any c (cM false) ∗ any c (cM true))

def Φ₀ (c : Dev nD) : sProp 𝕄 := iprop(start m c ∗ own4 c)
def Φ₁ (c : Dev nD) : sProp 𝕄 :=
  iprop(semVal (barCell c) 0 ∗ all12 (fun j => semVal (sndCell c j) 0) ∗ all12 (fun j => semVal (rcvCell c j) 0) ∗ own4 c)

def dats (_ : Fin 1) (c : Dev nD) : Dat τ (Elt F) Unit ℕ UU ℕ cfg0 c where
  A w := m ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => iblk m c 4 t0_0
    | ⟨5, _⟩ => outAt (PP m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## Families over a device's cells -/

theorem ck_eq (Φ : CK → sProp 𝕄) : bigSep Finset.univ Φ
    = iprop(Φ none ∗ (bigSep Finset.univ fun j : Stp => Φ (some (true, j))) ∗ bigSep Finset.univ fun j : Stp => Φ (some (false, j))) := by
  have h : (Finset.univ : Finset CK).erase none = (Finset.univ : Finset (Bool × Stp)).map Function.Embedding.some := by decide
  rw [bigSep_univ_at Φ none, h, bigSep_map, bigSep_univ_prod, bigSep_univ_eq_bigSepL [true, false] (by decide) (by decide)]
  rfl

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_eq (c : Dev nD) (w : Fin 6) (hw : (cfg0.win w).fetch t0_0 = true) (d) :
    (dats m 0 c).before w t0_0 d = (dats m 0 c).fetched w t0_0 d := by
  unfold Dat.before; rw [if_pos hw]

theorem five_eq (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem ins_intro (c : Dev nD) (J : Ins F) :
    iprop(stg c cc0_stg0_0 (J 0) ∗ stg c cc0_stg1_0 (J 1) ∗ stg c cc0_stg2_0 (J 2) ∗ stg c cc0_stg3_0 (J 3) ∗ stg c cc0_stg4_0 (J 4)) ⊢ insAt c J := by
  unfold insAt
  rw [five_eq]
  iintro ⟨⟨%f0, %h0, H0⟩, ⟨%f1, %h1, H1⟩, ⟨%f2, %h2, H2⟩, ⟨%f3, %h3, H3⟩, ⟨%f4, %h4, H4⟩⟩
  subst h0 h1 h2 h3 h4
  isplitl [H0]; · iexact H0
  isplitl [H1]; · iexact H1
  isplitl [H2]; · iexact H2
  isplitl [H3]; · iexact H3
  iexact H4
theorem ins_elim (c : Dev nD) (J : Ins F) :
    insAt c J ⊢ iprop(stg c cc0_stg0_0 (J 0) ∗ stg c cc0_stg1_0 (J 1) ∗ stg c cc0_stg2_0 (J 2) ∗ stg c cc0_stg3_0 (J 3) ∗ stg c cc0_stg4_0 (J 4)) := by
  unfold insAt
  rw [five_eq]
  iintro ⟨H0, H1, H2, H3, H4⟩
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

def oblPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def oblPost (c : Dev nD) : sProp 𝕄 :=
  iprop(Φ₁ c ∗ (dats m 0 c).owesAt () t0_0.succ
    ∗ stg c cc0_stg0_0 (inp m c 0) ∗ stg c cc0_stg1_0 (inp m c 1) ∗ stg c cc0_stg2_0 (inp m c 2) ∗ stg c cc0_stg3_0 (inp m c 3)
    ∗ stg c cc0_stg4_0 (inp m c 4) ∗ stg c cc0_stg5_0 (outAt (PP m) c))

theorem any_stg5 (c : Dev nD) (X) : stg c cc0_stg5_0 X ⊢ (any c oM : sProp 𝕄) := by
  iintro ⟨%f, -, H⟩
  iexists f
  rw [owns_whole]
  iexact H

/-- What the launch hands a device is what its body starts from; -/
theorem pre_intro (c : Dev nD) : oblPre m c ⊢ iprop(∃ K, recs (PP m) K ∗ levAts L lv ∗ bodyPre (inp m) c) := by
  unfold oblPre Φ₀ start linear crd own4 bodyPre
  iintro ⟨⟨⟨⟨%K, HR, Hat, Htb1, Htb2, Htk⟩, ⟨Hcb, Hcr⟩, HL⟩, Ha1, Ha2, Hc1, Hc2⟩, Ho, ⟨%d0, H0⟩, ⟨%d1, H1⟩, ⟨%d2, H2⟩, ⟨%d3, H3⟩, ⟨%d4, H4⟩, ⟨%d5, H5⟩⟩
  rw [before_eq m c 0 (fetch0_0 _), before_eq m c 1 (fetch0_1 _), before_eq m c 2 (fetch0_2 _), before_eq m c 3 (fetch0_3 _), before_eq m c 4 (fetch0_4 _)]
  unfold Dat.owesAt Pipeline.owesWithin
  icases Ho with ⟨%W, %hW, Ho⟩
  iexists K
  isplitl [HR]; · iexact HR
  isplitl [HL]; · iexact HL
  isplitl [Ho]; · unfold owesA; iexists W; iexact Ho
  ihave Hat := (Entails.of_eq (ck_eq fun k => atPos ER (kcell (c, k)) 0 ∅ 0)) $$ Hat
  icases Hat with ⟨HaB, HaR, HaS⟩
  isplitl [Htb1 Htb2 Hcb HaB]
  · isplitl [Htb1]; · iexact Htb1
    isplitl [Htb2]; · iexact Htb2
    isplitl [Hcb] <;> iassumption
  isplitl [Hc1]; · iapply (land_cut c false); iexact Hc1
  isplitl [Hc2]; · iapply (land_cut c true); iexact Hc2
  isplitl [H0 H1 H2 H3 H4]
  · iapply (ins_intro c (inp m c))
    isplitl [H0]; · iexact H0
    isplitl [H1]; · iexact H1
    isplitl [H2]; · iexact H2
    isplitl [H3]; · iexact H3
    iexact H4
  isplitl [Htk]; · iapply (Entails.of_eq (all12_eq (toks c))); iexact Htk
  isplitl [Hcr HaR]
  · iapply (Entails.of_eq (all12_eq fun j => turn c (true, j)))
    unfold turn
    iapply (Entails.of_eq (bigSep_sep' Finset.univ (fun j : Stp => (cred (tallyAt (rcvCell c j) () N) : sProp 𝕄)) (fun j => atPos ER (rcvCell c j) 0 ∅ 0)).symm)
    isplitl [Hcr] <;> iassumption
  isplitl [HaS]; · iapply (Entails.of_eq (all12_eq fun j => atPos ER (sndCell c j) 0 ∅ 0)); iexact HaS
  isplitl [Ha1 Ha2]
  · iapply (acc_cut c); isplitl [Ha1] <;> iassumption
  iapply (out_cut c)
  iapply (any_stg5 c)
  iexact H5

/-- and what its body ends with what the launch takes back. -/
theorem post_elim (c : Dev nD) : bodyPost (inp m) c ⊢ oblPost m c := by
  unfold oblPost Φ₁ own4 bodyPost owesA
  iintro ⟨⟨%W, Ho⟩, HB, HS, HV, HI, HL, HA, HO⟩
  ihave HL := (land_glue c) $$ HL
  ihave HA := (acc_glue c) $$ HA
  ihave HI := (ins_elim c (inp m c)) $$ HI
  icases HI with ⟨H0, H1, H2, H3, H4⟩
  ihave HO := (out_glue c (PP m)) $$ HO
  isplitl [HB HS HV HL HA]
  · isplitl [HB]; · iexact HB
    isplitl [HS]; · iexact HS
    isplitl [HV]; · iexact HV
    icases HA with ⟨HA1, HA2⟩
    isplitl [HA1]; · iexact HA1
    isplitl [HA2]; · iexact HA2
    iexact HL
  isplitl [Ho]
  · unfold Dat.owesAt Pipeline.owesWithin
    iexists W
    isplitr; · ipureintro; exact fun _ _ => Or.inl trivial
    iexact Ho
  isplitl [H0]; · iexact H0
  isplitl [H1]; · iexact H1
  isplitl [H2]; · iexact H2
  isplitl [H3]; · iexact H3
  isplitl [H4]; · iexact H4
  iapply (Entails.of_eq (owns_whole_eq (c : Thread nD τ) cc0_stg5_0 fullShare (outAt (PP m) c)))
  iexact HO

set_option maxRecDepth 20000 in
/-- The pipeline's obligation of the body on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show oblPre m c ⊢ go c (on (cc0_body (F := F))) (fun _ => oblPost m c)
  iintro H
  ihave H := (pre_intro m c) $$ H
  icases H with ⟨%K, HR, HL, HP⟩
  iapply (body_run (inp m) K c) $$ [HR HL HP]
  · isplitl [HR]; · iexact HR
    isplitl [HL] <;> iassumption
  iintro H
  iapply (post_elim m c)
  iexact H

end Cert.KernelIdeal.Run

end
-- ==== Proof.KernelIdeal.Run.lean ====
/-
The run of the whole program.

The launch makes every cell's round and its duties' tokens, deals the tokens around the two rings and books every
device's debts as the receivers' credits; the pipeline's launch theorem then runs the four devices.
-/
module

public import proofs.«01_k».proof.Proof.KernelIdeal.Launch
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The kernel's own semaphores. -/
abbrev osem (bj : Bool × Stp) : SemLoc sig := csem (some bj)

theorem ownSemFacts : Pipeline.OwnSemFacts cfg0.spec osem := by decide

theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

def cells4 : Finset (GSem nD τ sig) := Finset.univ.map ⟨kcell, kcell_inj⟩

/-- A token for either duty name of every cell. -/
abbrev tokOf (x : Dev nD × CK × Bool) : GSem nD τ sig × ℕ × Bool := (kcell (x.1, x.2.1), 0, x.2.2)
theorem tokOf_inj : Function.Injective tokOf := by
  rintro ⟨c, k, b⟩ ⟨c', k', b'⟩ h
  have h1 : (c, k) = (c', k') := kcell_inj (congrArg (fun x : GSem nD τ sig × ℕ × Bool => x.1) h)
  have h2 : b = b' := congrArg (fun x : GSem nD τ sig × ℕ × Bool => x.2.2) h
  cases h1; cases h2; rfl
def toks4 : Finset (GSem nD τ sig × ℕ × Bool) := Finset.univ.map ⟨tokOf, tokOf_inj⟩

def u₀ : UU := (initOf (Pipeline.cells cfgs cellOf_inj) (Pipeline.launchToks cfgs cellOf_inj), initOf cells4 toks4)

/-- The tokens of a device's own cells. -/
def mint (c : Dev nD) : sProp 𝕄 :=
  bigSep Finset.univ fun k : CK => bigSep Finset.univ fun b : Bool => dutyTok ER (kcell (c, k)) 0 b

def G (c : Dev nD) : sProp 𝕄 :=
  iprop((bigSep Finset.univ fun k : CK => roundState ER (Rd (PP m)) (kcell (c, k)) 0)
    ∗ (bigSep Finset.univ fun k : CK => iprop(atPos ER (kcell (c, k)) 0 ∅ 0 ∗ reached ER (kcell (c, k)) 0)) ∗ mint c)

def G' (c : Dev nD) : sProp 𝕄 := iprop(∃ K, recs (PP m) K ∗ linear c)

theorem fund : BI.own (ER (initOf cells4 toks4)) ⊢ (|==> bigSep Finset.univ (G m) : sProp 𝕄) := by
  have hX (Φ : GSem nD τ sig → sProp 𝕄) : bigSep cells4 Φ = bigSep Finset.univ fun c : Dev nD => bigSep Finset.univ fun k : CK => Φ (kcell (c, k)) := by
    unfold cells4; rw [bigSep_map, bigSep_univ_prod]; rfl
  have hT : bigSep toks4 (fun x => (dutyTok ER x.1 x.2.1 x.2.2 : sProp 𝕄)) = bigSep Finset.univ fun c : Dev nD => mint c := by
    unfold toks4; rw [bigSep_map, bigSep_univ_prod]
    exact bigSep_congr fun c _ => by unfold mint; rw [bigSep_univ_prod]; rfl
  iintro HX
  imod (Rounds.fund ER (Rd (PP m)) cells4 toks4) $$ HX with ⟨Hst, Hr, Hat, Htok⟩
  imodintro
  ihave Hst := (Entails.of_eq (hX fun g => roundState ER (Rd (PP m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems_eq (c : Dev nD) :
    (Pipeline.ownSems0 (Ix := Unit) (Name := ℕ) (U := UU) (Lvl := ℕ) (Val := Elt F) (τ := τ) osem c : sProp 𝕄)
      = iprop((bigSep Finset.univ fun j : Stp => semVal (sndCell c j) 0) ∗ bigSep Finset.univ fun j : Stp => semVal (rcvCell c j) 0) := by
  unfold Pipeline.ownSems0
  rw [bigSep_univ_prod, bool_eq]
theorem unscopedSems_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems_eq, unscopedSems_eq, ck_eq]
  iintro ⟨⟨HS, HV⟩, HB⟩
  isplitl [HB]; · iexact HB
  isplitl [HV] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (PP m)) κ (kcell (c, k))))
          ∗ (bigSep Finset.univ fun k => iprop(atPos ER (kcell (c, k)) 0 ∅ 0 ∗ reached ER (kcell (c, k)) 0)) ∗ mint c) := by
  unfold G
  iintro ⟨Hos, Hus, Hst, Hat, Htok⟩
  ihave Hv := (sems_eq (F := F) c) $$ [Hos Hus]
  · isplitl [Hos] <;> iassumption
  imod (show iprop((bigSep Finset.univ fun k : CK => semVal (kcell (c, k)) 0) ∗ bigSep Finset.univ fun k : CK => roundState ER (Rd (PP m)) (kcell (c, k)) 0)
      ⊢ (|={Set.univ}=> bigSep Finset.univ fun k => iprop(∃ κ : ℕ, cellInv ER (Rd (PP m)) κ (kcell (c, k))) : sProp 𝕄) from by
        rw [← bigSep_sep']
        exact (bigSep_mono fun k _ => (Rounds.body_intro ER (Rd (PP m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device's own cells need. -/
def need (c : Dev nD) : sProp 𝕄 :=
  iprop(dutyTok ER (barCell c) 0 false ∗ dutyTok ER (barCell c) 0 true
    ∗ (bigSep Finset.univ fun j : Stp => dutyTok ER (rcvCell c j) 0 false) ∗ bigSep Finset.univ fun j : Stp => dutyTok ER (sndCell c j) 0 false)
/-- The tokens a device pays with. -/
def pays (c : Dev nD) : sProp 𝕄 :=
  iprop(dutyTok ER (barCell (peer true c)) 0 false ∗ dutyTok ER (barCell (peer false c)) 0 true ∗ bigSep Finset.univ (toks c))

theorem mint_need (c : Dev nD) : (mint c : sProp 𝕄) ⊢ need c := by
  unfold mint need
  rw [ck_eq, bool_eq]
  iintro ⟨⟨H1, H2⟩, H3, H4⟩
  have h (f : Stp → CK) : (bigSep Finset.univ fun j : Stp => bigSep Finset.univ fun b : Bool => dutyTok ER (kcell (c, f j)) 0 b : sProp 𝕄)
      ⊢ bigSep Finset.univ fun j : Stp => dutyTok ER (kcell (c, f j)) 0 false :=
    bigSep_mono fun j _ => bigSep_elim (Finset.mem_univ false)
  isplitl [H1]; · iexact H1
  isplitl [H2]; · iexact H2
  isplitl [H3]
  · iapply (h fun j => some (true, j)); iexact H3
  · iapply (h fun j => some (false, j)); iexact H4

/-- The tokens dealt around the rings: a device's tokens go to those who pay its cells. -/
theorem deal : (bigSep Finset.univ fun c : Dev nD => (need c : sProp 𝕄)) ⊢ bigSep Finset.univ fun c : Dev nD => pays c := by
  have hr : (bigSep Finset.univ fun c : Dev nD => bigSep Finset.univ fun j : Stp => (dutyTok ER (rcvCell c j) 0 false : sProp 𝕄))
      = bigSep Finset.univ fun c : Dev nD => bigSep Finset.univ fun j : Stp => dutyTok ER (rcvCell (peer j.1 c) j) 0 false := by
    rw [BI.bigSep_univ_comm, BI.bigSep_univ_comm (fun (c : Dev nD) (j : Stp) => (dutyTok ER (rcvCell (peer j.1 c) j) 0 false : sProp 𝕄))]
    exact bigSep_congr fun j _ => bigSep_univ_equiv (ring j.1) fun c : Dev nD => (dutyTok ER (rcvCell c j) 0 false : sProp 𝕄)
  have ht (c : Dev nD) : (bigSep Finset.univ (toks c) : sProp 𝕄)
      = iprop((bigSep Finset.univ fun j : Stp => dutyTok ER (sndCell c j) 0 false) ∗ bigSep Finset.univ fun j : Stp => dutyTok ER (rcvCell (peer j.1 c) j) 0 false) := by
    unfold toks; rw [bigSep_sep']
  unfold need pays
  simp only [ht]
  rw [bigSep_sep', bigSep_sep', bigSep_sep', bigSep_sep', bigSep_sep', bigSep_sep', hr,
    bigSep_univ_equiv (ring true) (fun c : Dev nD => (dutyTok ER (barCell c) 0 false : sProp 𝕄)),
    bigSep_univ_equiv (ring false) (fun c : Dev nD => (dutyTok ER (barCell c) 0 true : sProp 𝕄))]
  iintro ⟨H1, H2, H3, H4⟩
  isplitl [H1]; · iexact H1
  isplitl [H2]; · iexact H2
  isplitl [H4] <;> iassumption

/-- A persistent assertion goes with every member of a family. -/
theorem with_all {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (PP m)) κ (kcell (c, k))))
          ∗ (bigSep Finset.univ fun k => iprop(atPos ER (kcell (c, k)) 0 ∅ 0 ∗ reached ER (kcell (c, k)) 0)) ∗ mint c) : sProp 𝕄)
      ⊢ bigSep Finset.univ (G' m) := by
  rw [bigSep_sep', bigSep_sep', ← bigSep_univ_prod (fun ck : Dev nD × CK => iprop(∃ κ : ℕ, cellInv ER (Rd (PP m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, HR⟩, Htok⟩
  ihave HK := (BI.bigSep_exists_pi Finset.univ (fun (ck : Dev nD × CK) (κ : ℕ) => (cellInv ER (Rd (PP m)) κ (kcell ck) : sProp 𝕄))) $$ HI
  icases HK with ⟨%K, HI⟩
  ihave Htok := (show (bigSep Finset.univ fun c : Dev nD => (mint c : sProp 𝕄)) ⊢ bigSep Finset.univ fun c : Dev nD => pays c from
    (bigSep_mono fun c _ => mint_need c).trans deal) $$ Htok
  have hl (c : Dev nD) : iprop(recs (PP m) K ∗ linear c) ⊢ G' m c := by unfold G'; iintro H; iexists K; iexact H
  iapply (with_all (R := recs (PP m) K) (Φ := linear) fun c _ => hl c)
  isplitl [HI HR]
  · unfold recs; rw [bigSep_sep']; isplitl [HI] <;> iassumption
  · have he : (bigSep Finset.univ fun c : Dev nD => (linear c : sProp 𝕄))
        = iprop((bigSep Finset.univ fun c : Dev nD => bigSep Finset.univ fun k : CK => atPos ER (kcell (c, k)) 0 ∅ 0) ∗ bigSep Finset.univ fun c : Dev nD => pays c) := by
      rw [← bigSep_sep']; rfl
    iapply (Entails.of_eq he.symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem owe_bar (d c : Dev nD) (l : List Stp) : owe d l (barCell c) () = 0 := by
  by_contra h
  obtain ⟨j, -, e⟩ := owe_pos (Nat.pos_of_ne_zero h)
  have := (Prod.ext_iff.mp (kcell_inj e)).2
  cases this

theorem owe_rcv (d c : Dev nD) (j : Stp) : ∀ l : List Stp, owe d l (rcvCell c j) () = l.count j * (if d = from' j.1 c then N else 0)
  | [] => by simp [owe]
  | j' :: l => by
    rw [owe, Pi.add_apply, Finsupp.add_apply, owe_rcv d c j l, tallyAt_apply, List.count_cons, Nat.add_mul]
    congr 1
    by_cases hj : j' = j
    · subst hj
      by_cases hd : d = from' j'.1 c
      · subst hd; rw [peer_from]; simp
      · rw [if_neg hd, if_neg]
        · simp
        · rintro ⟨h, -⟩
          exact hd ((from_peer j'.1 d).symm.trans (congrArg (from' j'.1) (Prod.ext_iff.mp (kcell_inj h)).1.symm))
    · rw [if_neg]
      · simp [hj]
      · rintro ⟨h, -⟩
        exact hj (Prod.ext_iff.mp (Option.some.inj (Prod.ext_iff.mp (kcell_inj h)).2)).2.symm

theorem bar_owed (d c : Dev nD) : O₀ d (barCell c) () = (if d = nxt c then 1 else 0) + (if d = prv c then 1 else 0) := by
  unfold O₀ O₁
  rw [Pi.add_apply, Finsupp.add_apply, Pi.add_apply, Finsupp.add_apply, owe_bar, tallyAt_apply, tallyAt_apply, Nat.zero_add, Nat.add_comm]
  have h (b : Bool) : (if barCell c = barCell (peer b d) ∧ () = () then 1 else 0) = if d = from' b c then 1 else 0 := by
    by_cases hd : d = from' b c
    · subst hd; rw [peer_from, if_pos ⟨rfl, rfl⟩, if_pos rfl]
    · rw [if_neg hd, if_neg]
      rintro ⟨h, -⟩
      exact hd ((from_peer b d).symm.trans (congrArg (from' b) (Prod.ext_iff.mp (kcell_inj h)).1.symm))
  exact congrArg₂ (· + ·) (h true) (h false)

theorem rcv_owed (d c : Dev nD) (j : Stp) : O₀ d (rcvCell c j) () = if d = from' j.1 c then N else 0 := by
  unfold O₀ O₁
  have hne (c' : Dev nD) : rcvCell c j ≠ barCell c' := fun h => by
    have := (Prod.ext_iff.mp (kcell_inj h)).2; cases this
  have hc : ∀ j : Stp, order.count j = 1 := by decide
  rw [Pi.add_apply, Finsupp.add_apply, Pi.add_apply, Finsupp.add_apply, tallyAt_apply, tallyAt_apply, owe_rcv, hc, Nat.one_mul,
    if_neg (c := rcvCell c j = barCell (peer true d) ∧ () = ()) (fun h => hne _ h.1),
    if_neg (c := rcvCell c j = barCell (peer false d) ∧ () = ()) (fun h => hne _ h.1)]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => bar_owed d c, Finset.sum_add_distrib,
    Finset.sum_ite_eq' Finset.univ (nxt c) fun _ => 1, Finset.sum_ite_eq' Finset.univ (prv c) fun _ => 1, if_pos (Finset.mem_univ _), if_pos (Finset.mem_univ _)]

theorem launch_rcv (c : Dev nD) (j : Stp) :
    tallyOn (rcvCell c j) (launchCredit (Pipeline.owing O₀) 0 (rcvCell c j)) = (tallyAt (rcvCell c j) () N : CellTallies nD τ sig Unit) := by
  unfold tallyAt; refine congrArg _ (Finsupp.ext fun u => ?_); cases u
  rw [Pipeline.launchCredit_owing, Finsupp.single_eq_same, Finset.sum_congr rfl fun d _ => rcv_owed d c j,
    Finset.sum_ite_eq' Finset.univ (from' j.1 c) fun _ => N, if_pos (Finset.mem_univ _)]

theorem creds (c : Dev nD) : (Pipeline.launchCred O₀ c : sProp 𝕄) ⊢ crd c := by
  unfold Pipeline.launchCred crd
  have hs : (bigSep Finset.univ fun sm : SemLoc sig => (cred (tallyOn ((c : Thread nD τ), sm) (launchCredit (Pipeline.owing O₀) 0 ((c : Thread nD τ), sm))) : sProp 𝕄))
      ⊢ bigSep Finset.univ fun k : CK => cred (tallyOn (kcell (c, k)) (launchCredit (Pipeline.owing O₀) 0 (kcell (c, k)))) := by
    refine (bigSep_subset (Finset.subset_univ ((Finset.univ : Finset CK).map ⟨csem, csem_inj⟩))).trans ?_
    rw [bigSep_map]; exact BI.Entails.refl _
  iintro H
  ihave H := hs $$ H
  ihave H := (Entails.of_eq (ck_eq fun k => (cred (tallyOn (kcell (c, k)) (launchCredit (Pipeline.owing O₀) 0 (kcell (c, k)))) : sProp 𝕄))) $$ H
  icases H with ⟨H1, H2, -⟩
  isplitl [H1]
  · rw [← launch_bar]; iexact H1
  · have h : (bigSep Finset.univ fun j : Stp => (cred (tallyAt (rcvCell c j) () N) : sProp 𝕄))
        = bigSep Finset.univ fun j : Stp => cred (tallyOn (rcvCell c j) (launchCredit (Pipeline.owing O₀) 0 (rcvCell c j))) :=
      bigSep_congr fun j _ => by rw [launch_rcv]
    rw [h]; iexact H2

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem own4_eq (c : Dev nD) : (Pipeline.scopedRest cfg0.spec c : sProp 𝕄) = own4 c := by
  rw [scopedRest0_eq]
  unfold own4
  have h (b : Ref sig .tc) : (iprop(∃ X, owns (c : Thread nD τ) (Memref.whole b) fullShare X) : sProp 𝕄)
      = iprop(∃ f : Buf (Elt F) ((c : Thread nD τ).loc b), ((c : Thread nD τ).loc b) ↦{fullShare} f) := by
    simp only [owns_whole]
  rw [← h, ← h, ← h, ← h]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, own4_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, own4_eq, ownSems_eq, unscopedSems_eq, all12_eq (F := F), all12_eq (F := F)]
  unfold Φ₁
  iintro ⟨HB, HS, HV, Hr⟩
  isplitl [HB]; · iexact HB
  isplitl [HS HV]
  · isplitl [HS] <;> iassumption
  iexact Hr

theorem share_eq (c : Dev nD) (w : Fin cfg0.W) : (dats m 0 c).share w = fullShare := by unfold Dat.share; split <;> rfl

theorem stage_sems : ∀ (w : Fin 6) (s : Fin (spec0 w).nbuf) (k : CK), csem k ≠ .dma ((spec0 w).sem s) := by decide

theorem waits (c : Dev nD) : (levAts L lv : sProp 𝕄) ⊢ Pipeline.cellsWaits cfgs (dats m) () 0 c :=
  Pipeline.cellsWaits_intro cfgs (dats m) () 0 c fun w s t =>
    mayWait_stage c _ (stage_sems w s) _ (by
      rcases t with ⟨_ | _, ht⟩
      · exact Or.inl rfl
      · exact Or.inr rfl)

/-! ## The run -/

/-- What the windows' arrays hold at the end. -/
def finalA (c : Dev nD) (w : Fin cfg0.W) : Buf (Elt F) ((cfg0.win w).arr.view.loc (c : Thread nD τ)) := (dats m 0 c).arrAt w cfg0.N

set_option maxRecDepth 8000 in
/-- Every weakly fair execution of the program ends, from any memory with zero counters, with every device's arrays as
    computed and every counter at zero again. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold at the end what they held. -/
theorem final_in (c : Dev nD) (w : Fin cfg0.W) (hw : (cfg0.win w).isOut = false) : finalA m c w = m ((cfg0.win w).arr.view.loc (c : Thread nD τ)) :=
  (dats (F := F) m 0 c).arrAt_in w hw _

/-- The run, read at the arguments and the result. -/
theorem run_args : θ_run defs (onTc (τ := τ) (main (F := F))) ⟨m, fun _ => 0, ρ⟩
    (fun r => (∀ c : Dev nD, r.2.mem ((c : Thread nD τ).loc main_v1) = finalA m c 5
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono
    (fun r h => ⟨fun c => ⟨h.1 c 5, (h.1 c 0).trans (final_in m c 0 rfl), (h.1 c 1).trans (final_in m c 1 rfl), (h.1 c 2).trans (final_in m c 2 rfl),
      (h.1 c 3).trans (final_in m c 3 rfl), (h.1 c 4).trans (final_in m c 4 rfl)⟩, h.2⟩) (run_main m ρ)

end Cert.KernelIdeal.Run

end
-- ==== Proof.KernelIdeal.Fold.lean ====
/-

The kernel's chunk computation as one function.

Each device computes four chunks of 256 rows, and the program spells the four computations out one after another, cut into
pieces at different places. Here they are put together again: `chunkT` is the computation of one chunk from its rows of the
input, its rows' mask and the eight heads of keys and values, and each `part` is one half of such a chunk.
-/
module

public import proofs.«01_k».proof.Proof.KernelIdeal.Vals

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Columns `64 * h …` of the queries: those of head `h`. -/
def qHead (q : FVec F S256x512 .f32) : Fin 8 → FVec F S256x64 .f32
  | 0 => extractStridedSlice S256x64 ![0, 0] q slices_S256x512_o0_0_S256x64
  | 1 => extractStridedSlice S256x64 ![0, 64] q slices_S256x512_o0_64_S256x64
  | 2 => extractStridedSlice S256x64 ![0, 128] q slices_S256x512_o0_128_S256x64
  | 3 => extractStridedSlice S256x64 ![0, 192] q slices_S256x512_o0_192_S256x64
  | 4 => extractStridedSlice S256x64 ![0, 256] q slices_S256x512_o0_256_S256x64
  | 5 => extractStridedSlice S256x64 ![0, 320] q slices_S256x512_o0_320_S256x64
  | 6 => extractStridedSlice S256x64 ![0, 384] q slices_S256x512_o0_384_S256x64
  | 7 => extractStridedSlice S256x64 ![0, 448] q slices_S256x512_o0_448_S256x64

/-- The rows' numbers within their batch entry, `s0` the first. -/
def rowsT (s0 : BitVec 32) : IVec S256x512 32 := addi (iota .tc S256x512 32 [0] iota_S256x512_d0_w32) (broadcast S256x512 s0)

/-- The mask of the rows from `s0` on: whether the block of 64 a column lies in is at most the one its row lies in. -/
def maskT (s0 : BitVec 32) : IVec S256x512 1 := k0_pay8 (k0_pay5 (rowsT s0)) k0_pay6 k0_pay7 1#32

/-- The masked scores of one head. -/
def scoreT (M : IVec S256x512 1) (q : FVec F S256x64 .f32) (k : Vec F S1x512x1x64 .f32) : FVec F S256x512 .f32 :=
  select M (mulf (matmul dot_S256x64_S512x64_S256x512_1_1_0_0_n_n none q (shapeCast S512x64 k shapeCasts_S1x512x1x64_S512x64)
      (constant S256x512 .f32 0x00000000#32)) (broadcast S256x512 (Scalar.ofBits .f32 0x3E000000#32 : F .f32)))
    (broadcast S256x512 (Scalar.ofBits .f32 0xCE6E6B28#32 : F .f32))

/-- Each row's exponentials, its maximum subtracted first. -/
def expT (s : FVec F S256x512 .f32) : FVec F S256x512 .f32 :=
  exp (subf s (broadcastTo S256x512 (shapeCast S256x1
    (multiReduction .maximumf [1] S256 s 0xFF800000#32 reduces_S256x512_S256 (.inl rfl) rfl : FVec F S256 .f32) shapeCasts_S256_S256x1)
    broadcasts_S256x1_S256x512))

/-- Each row divided by its sum. -/
def normT (p : FVec F S256x512 .f32) : FVec F S256x512 .f32 :=
  divf p (broadcastTo S256x512 (shapeCast S256x1
    (multiReduction .add [1] S256 p 0x00000000#32 reduces_S256x512_S256 (.inl rfl) rfl : FVec F S256 .f32) shapeCasts_S256_S256x1)
    broadcasts_S256x1_S256x512)

/-- One head's attention. -/
def headT (M : IVec S256x512 1) (q : FVec F S256x64 .f32) (k v : Vec F S1x512x1x64 .f32) : FVec F S256x64 .f32 :=
  matmul dot_S256x512_S512x64_S256x64_1_0_0_1_n_n none (normT (expT (scoreT M q k)))
    (shapeCast S512x64 v shapeCasts_S1x512x1x64_S512x64) (constant S256x64 .f32 0x00000000#32)

/-- The queries of a chunk. -/
def queryT (wq : Vec F S768x512 .f32) (x : Vec F S1x256x768 .f32) : FVec F S256x512 .f32 :=
  matmul dot_S256x768_S768x512_S256x512_1_0_0_1_n_n none (shapeCast S256x768 x shapeCasts_S1x256x768_S256x768)
    (shapeCast S768x512 wq shapeCasts_S768x512_S768x512) (constant S256x512 .f32 0x00000000#32)

/-- Eight heads side by side. -/
def ctxT (h : Fin 8 → FVec F S256x64 .f32) : FVec F S256x512 .f32 :=
  concatenate S256x512 1 [⟨S256x64, h 0⟩, ⟨S256x64, h 1⟩, ⟨S256x64, h 2⟩, ⟨S256x64, h 3⟩, ⟨S256x64, h 4⟩, ⟨S256x64, h 5⟩, ⟨S256x64, h 6⟩, ⟨S256x64, h 7⟩]
    concatenates_S256x64_S256x64_S256x64_S256x64_S256x64_S256x64_S256x64_S256x64_S256x512_d1

/-- A device's partial product of one chunk. -/
def chunkT (wq : Vec F S768x512 .f32) (wo : Vec F S512x768 .f32) (s0 : BitVec 32) (x : Vec F S1x256x768 .f32)
    (k v : Fin 8 → Vec F S1x512x1x64 .f32) : FVec F S256x768 .bf16 :=
  truncf .bf16 (matmul dot_S256x512_S512x768_S256x768_1_0_0_1_n_n none
    (ctxT fun h => headT (maskT s0) (qHead (queryT wq x) h) (k h) (v h))
    (shapeCast S512x768 wo shapeCasts_S512x768_S512x768) (constant S256x768 .f32 0x00000000#32)) bitsLt_bf16_f32

/-- One half of a chunk's rows: the first 128 for the transfers to the right, the last for those to the left. -/
def halfT (d : Bool) (u : FVec F S256x768 .bf16) : Vec F S1x128x768 .bf16 :=
  if d then shapeCast S1x128x768 (extractStridedSlice S128x768 ![128, 0] u slices_S256x768_o128_0_S128x768) shapeCasts_S128x768_S1x128x768
  else shapeCast S1x128x768 (extractStridedSlice S128x768 ![0, 0] u slices_S256x768_o0_0_S128x768) shapeCasts_S128x768_S1x128x768

/-- The number of the first row of the chunk `b` within its batch entry. -/
def firstRow (b : BitVec 32) : BitVec 32 := Scalar.muli (Scalar.remsi b 2#32) 256#32

open Val

/-- Where the loads of the heads of the chunk `r` places after its own start. -/
def headOff (c : Dev nD) : ℕ → Fin 8 → Fin 4 → ℕ
  | 0 => ![k0_off4 c, k0_off5 c, k0_off6 c, k0_off7 c, k0_off8 c, k0_off9 c, k0_off10 c, k0_off11 c]
  | 1 => ![k0_off15 c 1#32, k0_off16 c 1#32, k0_off17 c 1#32, k0_off18 c 1#32, k0_off19 c 1#32, k0_off20 c 1#32, k0_off21 c 1#32, k0_off22 c 1#32]
  | 2 => ![k0_off15 c 2#32, k0_off16 c 2#32, k0_off17 c 2#32, k0_off18 c 2#32, k0_off19 c 2#32, k0_off20 c 2#32, k0_off21 c 2#32, k0_off22 c 2#32]
  | _ => ![k0_off25 c, k0_off26 c, k0_off27 c, k0_off28 c, k0_off29 c, k0_off30 c, k0_off31 c, k0_off32 c]

/-- In numbers. -/
theorem headOff_eq (c : Dev nD) (r : Fin 4) (h : Fin 8) : headOff c r.val h = ![(c.val + r.val) % 4 / 2, 0, h.val, 0] :=
  (by decide +kernel : ∀ (c : Dev nD) (r : Fin 4) (h : Fin 8), headOff c r.val h = ![(c.val + r.val) % 4 / 2, 0, h.val, 0]) c r h

/-- The loads lie within the array. -/
theorem headOff_inb (c : Dev nD) (r : Fin 4) (h : Fin 8) (a : Fin 4) : headOff c r.val h a + S1x512x1x64.size a ≤ S2x512x8x64.size a :=
  (by decide +kernel : ∀ (c : Dev nD) (r : Fin 4) (h : Fin 8) (a : Fin 4), headOff c r.val h a + S1x512x1x64.size a ≤ S2x512x8x64.size a) c r h a

/-- One head of the keys device `c` reads for the chunk `r` places after its own. -/
def keysT (I : Dev nD → Ins F) (c : Dev nD) (r : Fin 4) (h : Fin 8) : Vec F S1x512x1x64 .f32 :=
  rd (I c) 2 (Rect.unit (s := S2x512x8x64) (headOff c r.val h) S1x512x1x64.size (headOff_inb c r h)).toLoadRect

/-- One head of the values. -/
def valuesT (I : Dev nD → Ins F) (c : Dev nD) (r : Fin 4) (h : Fin 8) : Vec F S1x512x1x64 .f32 :=
  rd (I c) 3 (Rect.unit (s := S2x512x8x64) (headOff c r.val h) S1x512x1x64.size (headOff_inb c r h)).toLoadRect

/-- The rows of the input device `c` reads for the chunk `r` places after its own. -/
def inputT (I : Dev nD → Ins F) (c : Dev nD) : ℕ → Vec F S1x256x768 .f32
  | 0 => v26 c (I c)
  | 1 => v298 c (I c)
  | 2 => v864 c (I c)
  | _ => v551 c (I c)

/-- The number of the chunk `r` places after `c`'s own, as the program computes it. -/
def chunkW (I : Dev nD → Ins F) (c : Dev nD) : ℕ → BitVec 32
  | 0 => v2 c (I c)
  | 1 => v292 c (I c)
  | 2 => v858 c (I c)
  | _ => v545 c (I c)

/-- The device's own chunk; -/
theorem part0_eq (I : Dev nD → Ins F) (d : Bool) (c : Dev nD) :
    part I d c 0 = halfT d (chunkT (v15 c (I c)) (v19 c (I c)) (firstRow (chunkW I c 0)) (inputT I c 0) (keysT I c 0) (valuesT I c 0)) := by
  cases d <;> rfl

/-- the next one; -/
theorem part1_eq (I : Dev nD → Ins F) (d : Bool) (c : Dev nD) :
    part I d c 1 = halfT d (chunkT (v15 c (I c)) (v19 c (I c)) (firstRow (chunkW I c 1)) (inputT I c 1) (keysT I c 1) (valuesT I c 1)) := by
  cases d <;> rfl

/-- the one after that; -/
theorem part2_eq (I : Dev nD → Ins F) (d : Bool) (c : Dev nD) :
    part I d c 2 = halfT d (chunkT (v15 c (I c)) (v19 c (I c)) (firstRow (chunkW I c 2)) (inputT I c 2) (keysT I c 2) (valuesT I c 2)) := by
  cases d <;> rfl

/-- and the last are that computation. -/
theorem part3_eq (I : Dev nD → Ins F) (d : Bool) (c : Dev nD) :
    part I d c 3 = halfT d (chunkT (v15 c (I c)) (v19 c (I c)) (firstRow (chunkW I c 3)) (inputT I c 3) (keysT I c 3) (valuesT I c 3)) := by
  cases d <;> rfl

/-- Each half of each chunk is the chunk computation's. -/
theorem part_eq (I : Dev nD → Ins F) (d : Bool) (c : Dev nD) (r : Fin 4) :
    part I d c r.val = halfT d (chunkT (v15 c (I c)) (v19 c (I c)) (firstRow (chunkW I c r.val)) (inputT I c r.val) (keysT I c r) (valuesT I c r)) := by
  match r with
  | 0 => exact part0_eq I d c
  | 1 => exact part1_eq I d c
  | 2 => exact part2_eq I d c
  | 3 => exact part3_eq I d c

end Cert.KernelIdeal.Run

end
-- ==== Proof.KernelIdeal.Reads.lean ====
/-

What the loads of the kernel's inputs read, element by element, and the numbers the program computes of its chunks.
-/
module

public import proofs.«01_k».proof.Proof.KernelIdeal.Fold
public import proofs.«01_k».proof.Proof.KernelIdeal.Launch
public import Idealize.ShloMosaic.Lib.Pointwise
public import Idealize.ShloMosaic.Lib.Pipeline.ValueKit
public import Idealize.ShloMosaic.Lib.ValueIdxCoords

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The chunk `r` places after device `c`'s own. -/
def chunk (c : Dev nD) (r : ℕ) : ℕ := (c.val + r) % 4

/-- There are four chunks. -/
theorem chunk_lt (c : Dev nD) (r : ℕ) : chunk c r < 4 := Nat.mod_lt _ (by decide)

/-- The batch entry chunk `b` lies in. -/
def entry (b : ℕ) : Fin 2 := ⟨b / 2 % 2, Nat.mod_lt _ (by decide)⟩

/-- Row `i` of chunk `b` within its batch entry. -/
def rowOf (b : ℕ) (i : Fin 256) : Fin 512 := ⟨256 * (b % 2) + i.val, by have := i.isLt; have := Nat.mod_lt b (show 0 < 2 by decide); omega⟩

/-- Column `l` of device `c`'s 512 columns. -/
def colOf (c : Dev nD) (l : Fin 512) : Fin 2048 := ⟨512 * c.val + l.val, by have := l.isLt; have : c.val < 4 := c.isLt; omega⟩

/-- The contents of input `w`. -/
abbrev cont (I : Ins F) (w : Fin 5) : (inSh w).Idx → Elt F .f32 := (inM w).view.read (Elt F) (I w)

/-- A load of a box of an input reads the input at the box's offset. -/
theorem rd_apply (I : Ins F) (w : Fin 5) (off size : Fin (inSh w).rank → ℕ) (inb) (j) (i : (inSh w).Idx)
    (h : ∀ a, off a + (j a).val = (i a).val) :
    rd I w (Rect.unit (s := inSh w) off size inb).toLoadRect j = cont I w i :=
  (View.readAt_apply _ _ _).trans (congrArg _ (funext fun a => Fin.ext ((Rect.idx_unit_val off size inb j a).trans (h a))))

/-- Where the loads of the weights and of the input's rows start, in numbers. -/
theorem off1_eq : ∀ c : Dev nD, k0_off1 c = ![0, 512 * c.val] := by decide +kernel
theorem off2_eq : ∀ c : Dev nD, k0_off2 c = ![512 * c.val, 0] := by decide +kernel
theorem off3_eq : ∀ c : Dev nD, k0_off3 c = ![(entry (chunk c 0)).val, 256 * (chunk c 0 % 2), 0] := by decide +kernel
theorem off14_1_eq : ∀ c : Dev nD, k0_off14 c 1#32 = ![(entry (chunk c 1)).val, 256 * (chunk c 1 % 2), 0] := by decide +kernel
theorem off14_2_eq : ∀ c : Dev nD, k0_off14 c 2#32 = ![(entry (chunk c 2)).val, 256 * (chunk c 2 % 2), 0] := by decide +kernel
theorem off24_eq : ∀ c : Dev nD, k0_off24 c = ![(entry (chunk c 3)).val, 256 * (chunk c 3 % 2), 0] := by decide +kernel

/-- The number the program computes of a chunk is the chunk's. -/
theorem chunkW_eq (I : Dev nD → Ins F) (c : Dev nD) (r : ℕ) (hr : r < 4) :
    firstRow (chunkW I c r) = BitVec.ofNat 32 (256 * (chunk c r % 2)) := by
  match r, hr with
  | 0, _ => exact (by decide +kernel : ∀ c : Dev nD, firstRow (Scalar.remsi (Scalar.divsi (Dev.word c) 1#32) 4#32) = BitVec.ofNat 32 (256 * (chunk c 0 % 2))) c
  | 1, _ => exact (by decide +kernel : ∀ c : Dev nD, firstRow (Scalar.remsi (Scalar.addi (Scalar.remsi (Scalar.divsi (Dev.word c) 1#32) 4#32) 1#32) 4#32) = BitVec.ofNat 32 (256 * (chunk c 1 % 2))) c
  | 2, _ => exact (by decide +kernel : ∀ c : Dev nD, firstRow (Scalar.remsi (Scalar.addi (Scalar.remsi (Scalar.divsi (Dev.word c) 1#32) 4#32) 2#32) 4#32) = BitVec.ofNat 32 (256 * (chunk c 2 % 2))) c
  | 3, _ => exact (by decide +kernel : ∀ c : Dev nD, firstRow (Scalar.remsi (Scalar.subi (Scalar.addi (Scalar.remsi (Scalar.divsi (Dev.word c) 1#32) 4#32) 4#32) 1#32) 4#32) = BitVec.ofNat 32 (256 * (chunk c 3 % 2))) c

/-- Device `c` reads its 512 columns of the query weights. -/
theorem wq_apply (I : Ins F) (c : Dev nD) (e : Fin 768) (l : Fin 512) :
    Val.v15 c I (ix2 e l) = cont I 1 (ix2 e (colOf c l)) := by
  refine rd_apply I 1 _ _ _ _ _ fun a => ?_
  refine (congrArg (· + _) (congrFun (off1_eq c) a)).trans ?_
  match a with
  | ⟨0, _⟩ => exact Nat.zero_add _
  | ⟨1, _⟩ => rfl

/-- Device `c` reads its 512 rows of the output weights. -/
theorem wo_apply (I : Ins F) (c : Dev nD) (l : Fin 512) (e : Fin 768) :
    Val.v19 c I (ix2 l e) = cont I 4 (ix2 (colOf c l) e) := by
  refine rd_apply I 4 _ _ _ _ _ fun a => ?_
  refine (congrArg (· + _) (congrFun (off2_eq c) a)).trans ?_
  match a with
  | ⟨0, _⟩ => rfl
  | ⟨1, _⟩ => exact Nat.zero_add _

/-- A load of 256 rows of the first input. -/
theorem rows_apply (I : Ins F) (b : ℕ) (off : Fin 3 → ℕ) (inb) (h : off = ![(entry b).val, 256 * (b % 2), 0]) (i : Fin 256) (e : Fin 768) :
    rd I 0 (Rect.unit (s := S2x512x768) off S1x256x768.size inb).toLoadRect (ix3 0 i e) = cont I 0 (ix3 (entry b) (rowOf b i) e) := by
  refine rd_apply I 0 _ _ _ _ _ fun a => ?_
  refine (congrArg (· + _) (congrFun h a)).trans ?_
  match a with
  | ⟨0, _⟩ => exact Nat.add_zero _
  | ⟨1, _⟩ => rfl
  | ⟨2, _⟩ => exact Nat.zero_add _

/-- A load of one head of the keys. -/
theorem keys_apply (I : Ins F) (b : Fin 2) (h : Fin 8) (off : Fin 4 → ℕ) (inb) (ho : off = ![b.val, 0, h.val, 0]) (t : Fin 512) (e : Fin 64) :
    rd I 2 (Rect.unit (s := S2x512x8x64) off S1x512x1x64.size inb).toLoadRect (ix4 0 t 0 e) = cont I 2 (ix4 b t h e) := by
  refine rd_apply I 2 _ _ _ _ _ fun a => ?_
  refine (congrArg (· + _) (congrFun ho a)).trans ?_
  match a with
  | ⟨0, _⟩ => exact Nat.add_zero _
  | ⟨1, _⟩ => exact Nat.zero_add _
  | ⟨2, _⟩ => exact Nat.add_zero _
  | ⟨3, _⟩ => exact Nat.zero_add _

/-- A load of one head of the values. -/
theorem values_apply (I : Ins F) (b : Fin 2) (h : Fin 8) (off : Fin 4 → ℕ) (inb) (ho : off = ![b.val, 0, h.val, 0]) (t : Fin 512) (e : Fin 64) :
    rd I 3 (Rect.unit (s := S2x512x8x64) off S1x512x1x64.size inb).toLoadRect (ix4 0 t 0 e) = cont I 3 (ix4 b t h e) := by
  refine rd_apply I 3 _ _ _ _ _ fun a => ?_
  refine (congrArg (· + _) (congrFun ho a)).trans ?_
  match a with
  | ⟨0, _⟩ => exact Nat.add_zero _
  | ⟨1, _⟩ => exact Nat.zero_add _
  | ⟨2, _⟩ => exact Nat.add_zero _
  | ⟨3, _⟩ => exact Nat.zero_add _

/-- The input's rows of each chunk. -/
theorem inputT_apply (I : Dev nD → Ins F) (c : Dev nD) (r : ℕ) (hr : r < 4) (i : Fin 256) (e : Fin 768) :
    inputT I c r (ix3 0 i e) = cont (I c) 0 (ix3 (entry (chunk c r)) (rowOf (chunk c r) i) e) := by
  match r, hr with
  | 0, _ => exact rows_apply (I c) _ _ _ (off3_eq c) i e
  | 1, _ => exact rows_apply (I c) _ _ _ (off14_1_eq c) i e
  | 2, _ => exact rows_apply (I c) _ _ _ (off14_2_eq c) i e
  | 3, _ => exact rows_apply (I c) _ _ _ (off24_eq c) i e

/-- The loads of the heads start at the chunk's batch entry. -/
theorem headOff_entry (c : Dev nD) (r : Fin 4) (h : Fin 8) : headOff c r.val h = ![(entry (chunk c r.val)).val, 0, h.val, 0] := by
  rw [headOff_eq]
  have : (c.val + r.val) % 4 / 2 = (entry (chunk c r.val)).val := by
    show _ = (c.val + r.val) % 4 / 2 % 2
    omega
  rw [this]

/-- The heads of the keys. -/
theorem keysT_apply (I : Dev nD → Ins F) (c : Dev nD) (r : Fin 4) (h : Fin 8) (t : Fin 512) (e : Fin 64) :
    keysT I c r h (ix4 0 t 0 e) = cont (I c) 2 (ix4 (entry (chunk c r.val)) t h e) :=
  keys_apply (I c) _ h _ _ (headOff_entry c r h) t e

/-- The heads of the values. -/
theorem valuesT_apply (I : Dev nD → Ins F) (c : Dev nD) (r : Fin 4) (h : Fin 8) (t : Fin 512) (e : Fin 64) :
    valuesT I c r h (ix4 0 t 0 e) = cont (I c) 3 (ix4 (entry (chunk c r.val)) t h e) :=
  values_apply (I c) _ h _ _ (headOff_entry c r h) t e

/-! The inputs the launch hands the kernel are the arguments. -/

variable (m : (ℓ : Loc nD τ sig) → Buf (Elt F) ℓ)

/-- Every window starts at the array's first element. -/
theorem win_off : ∀ (w : Fin 6) (a : Fin (win0 w).shape.rank), (win0 w).kind.off ((win0 w).index t0_0 a) ((win0 w).size a) = 0 := by
  decide +kernel

/-- The contents of the inputs are the arguments. -/
theorem cont0 (c : Dev nD) : cont (inp m c) 0 = m ((c.tc : Thread nD τ).loc main_arg0) := by
  funext j
  refine congrArg (m ((c.tc : Thread nD τ).loc main_arg0)) (a₁ := (win0_0.rect t0_0).emb j) (funext fun a => Fin.ext ?_)
  exact (Rect.idx_unit_val _ _ _ _ a).trans (by rw [win_off 0 a, Nat.zero_add])

theorem cont1 (c : Dev nD) : cont (inp m c) 1 = m ((c.tc : Thread nD τ).loc main_arg1) := by
  funext j
  refine congrArg (m ((c.tc : Thread nD τ).loc main_arg1)) (a₁ := (win0_1.rect t0_0).emb j) (funext fun a => Fin.ext ?_)
  exact (Rect.idx_unit_val _ _ _ _ a).trans (by rw [win_off 1 a, Nat.zero_add])

theorem cont2 (c : Dev nD) : cont (inp m c) 2 = m ((c.tc : Thread nD τ).loc main_arg2) := by
  funext j
  refine congrArg (m ((c.tc : Thread nD τ).loc main_arg2)) (a₁ := (win0_2.rect t0_0).emb j) (funext fun a => Fin.ext ?_)
  exact (Rect.idx_unit_val _ _ _ _ a).trans (by rw [win_off 2 a, Nat.zero_add])

theorem cont3 (c : Dev nD) : cont (inp m c) 3 = m ((c.tc : Thread nD τ).loc main_arg3) := by
  funext j
  refine congrArg (m ((c.tc : Thread nD τ).loc main_arg3)) (a₁ := (win0_3.rect t0_0).emb j) (funext fun a => Fin.ext ?_)
  exact (Rect.idx_unit_val _ _ _ _ a).trans (by rw [win_off 3 a, Nat.zero_add])

theorem cont4 (c : Dev nD) : cont (inp m c) 4 = m ((c.tc : Thread nD τ).loc main_arg4) := by
  funext j
  refine congrArg (m ((c.tc : Thread nD τ).loc main_arg4)) (a₁ := (win0_4.rect t0_0).emb j) (funext fun a => Fin.ext ?_)
  exact (Rect.idx_unit_val _ _ _ _ a).trans (by rw [win_off 4 a, Nat.zero_add])

end Cert.KernelIdeal.Run

end
-- ==== Proof.KernelIdeal.Head.lean ====
/-
One head of attention on one row, as a function of numbers: the scores of a query against 512 keys, masked by the block
of 64 the key lies in, the softmax of the scores, and the values' average by it; and the kernel's computation of it, read
element by element over the extended reals.
-/
module

public import proofs.«01_k».proof.Proof.KernelIdeal.Reads

@[expose] public section

noncomputable section

namespace Cert.KernelIdeal.Run

open Cert.KernelIdeal Cert.KernelIdeal.Gen

open Idealize.ShloMosaic
open Idealize.ShloMosaic.TcCoe

/-- The masked score of key `t` for a query in the block `b` of 64 rows. -/
def score (b : ℕ) (q : Fin 64 → EReal) (k : Fin 512 → Fin 64 → EReal) (t : Fin 512) : EReal :=
  if t.val / 64 ≤ b then (∑ e : Fin 64, q e * k t e) * Ideal.ofBits .f32 0x3E000000#32 else Ideal.ofBits .f32 0xCE6E6B28#32

/-- The exponential of a score, the largest score subtracted first. -/
def expo (s : Fin 512 → EReal) (t : Fin 512) : EReal :=
  Ideal.exp (s t - (Finset.univ : Finset (Fin 512)).fold max (Ideal.ofBits .f32 0xFF800000#32) s)

/-- One column of the attention's result. -/
def attend (b : ℕ) (q : Fin 64 → EReal) (k v : Fin 512 → Fin 64 → EReal) (d : Fin 64) : EReal :=
  ∑ t : Fin 512, Ideal.div (expo (score b q k) t) (∑ t' : Fin 512, expo (score b q k) t') * v t d

/-- A score: scaled product or the mask's constant. -/
theorem scoreT_apply (M : IVec S256x512 1) (q : FVec Ideal S256x64 .f32) (k : Vec Ideal S1x512x1x64 .f32) (i : Fin 256) (t : Fin 512) :
    scoreT M q k (ix2 i t) = Scalar.select (M (ix2 i t)) ((∑ e : Fin 64, q (ix2 i e) * k (ix4 0 t 0 e)) * Ideal.ofBits .f32 0x3E000000#32) (Ideal.ofBits .f32 0xCE6E6B28#32) := by
  unfold scoreT
  pointwise

/-- The exponential of a score. -/
theorem expT_apply (s : FVec Ideal S256x512 .f32) (i : Fin 256) (t : Fin 512) :
    expT s (ix2 i t) = expo (fun t => s (ix2 i t)) t := by
  unfold expT expo
  pointwise

/-- An entry divided by its row's sum. -/
theorem normT_apply (s : FVec Ideal S256x512 .f32) (i : Fin 256) (t : Fin 512) :
    normT s (ix2 i t) = Ideal.div (s (ix2 i t)) (∑ t' : Fin 512, s (ix2 i t')) := by
  unfold normT
  pointwise

/-- The values' average by a row's weights. -/
theorem headT_apply (M : IVec S256x512 1) (q : FVec Ideal S256x64 .f32) (k v : Vec Ideal S1x512x1x64 .f32) (i : Fin 256) (d : Fin 64) :
    headT M q k v (ix2 i d) = ∑ t : Fin 512, normT (expT (scoreT M q k)) (ix2 i t) * v (ix4 0 t 0 d) := by
  unfold headT
  pointwise

/-- A query: the product of the input's row with a column of the query weights. -/
theorem queryT_apply (wq : Vec Ideal S768x512 .f32) (x : Vec Ideal S1x256x768 .f32) (i : Fin 256) (l : Fin 512) :
    queryT wq x (ix2 i l) = ∑ e : Fin 768, x (ix3 0 i e) * wq (ix2 e l) := by
  unfold queryT
  pointwise

/-- Column `e` of head `h` among the 512 columns of eight heads. -/
def headCol (h : Fin 8) (e : Fin 64) : Fin 512 := ⟨64 * h.val + e.val, by have := h.isLt; have := e.isLt; omega⟩

/-- A head's queries are its 64 columns of the chunk's. -/
theorem qHead_apply (q : FVec Ideal S256x512 .f32) (h : Fin 8) (i : Fin 256) (e : Fin 64) :
    qHead q h (ix2 i e) = q (ix2 i (headCol h e)) := by
  fin_cases h <;> (unfold qHead; pointwise; exact congrArg q (congrArg (ix2 i) (Fin.ext (by simp [headCol]))))

/-- A head's columns of the eight side by side are the head's. -/
theorem ctxT_apply (u : Fin 8 → FVec Ideal S256x64 .f32) (h : Fin 8) (i : Fin 256) (e : Fin 64) :
    ctxT u (ix2 i (headCol h e)) = u h (ix2 i e) := by
  have hv : (headCol h e).val = 64 * h.val + e.val := rfl
  have he := e.isLt
  unfold ctxT
  pointwise
  generalize headCol h e = l at hv ⊢
  split_ifs <;> exact congr (congrArg u (Fin.ext (by simp; omega))) (congrArg (ix2 i) (Fin.ext (by simp only; omega)))

/-- The program's division of a row's or column's number by 64, rounded down. -/
def blockW (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32) (IntOp.divsi ArithUnit.vector w 64#32)

/-- On the numbers of rows and columns it is the natural numbers' division. -/
theorem blockW_eq : ∀ n : Fin 512, blockW (BitVec.ofNat 32 n.val) = BitVec.ofNat 32 (n.val / 64) := by decide +kernel

/-- The signed comparison of two blocks' numbers is that of natural numbers. -/
theorem block_le : ∀ a b : Fin 8, IntOp.cmpi .sle (BitVec.ofNat 32 a.val) (BitVec.ofNat 32 b.val) = if a.val ≤ b.val then 1#1 else 0#1 := by
  decide +kernel

/-- The mask admits the keys of the row's block and those before it. -/
theorem maskT_apply (b : ℕ) (i : Fin 256) (t : Fin 512) :
    maskT (BitVec.ofNat 32 (256 * (b % 2))) (ix2 i t) = if t.val / 64 ≤ (rowOf b i).val / 64 then 1#1 else 0#1 := by
  have h : maskT (BitVec.ofNat 32 (256 * (b % 2))) (ix2 i t)
      = IntOp.cmpi .sle (blockW (BitVec.ofNat 32 t.val)) (blockW (IntOp.addi (BitVec.ofNat 32 i.val) (BitVec.ofNat 32 (256 * (b % 2))))) := by
    unfold maskT rowsT k0_pay8 k0_pay7 k0_pay6 k0_pay5
    pointwise
    rfl
  have h' : IntOp.addi (BitVec.ofNat 32 i.val) (BitVec.ofNat 32 (256 * (b % 2))) = BitVec.ofNat 32 (rowOf b i).val := by
    show BitVec.ofNat 32 _ + BitVec.ofNat 32 _ = _
    rw [← BitVec.ofNat_add]
    exact congrArg _ (Nat.add_comm _ _)
  rw [h, h', blockW_eq t, blockW_eq (rowOf b i)]
  exact block_le ⟨t.val / 64, by omega⟩ ⟨(rowOf b i).val / 64, by omega⟩

end Cert.KernelIdeal.Run

end
-- ==== Proof.KernelIdeal.Chunk.lean ====
/-

A device's partial product of a chunk, as a sum over its eight heads of their attention times the output weights.
-/
module

public import proofs.«01_k».proof.Proof.KernelIdeal.Head

@[expose] public section

noncomputable section

namespace Cert.KernelIdeal.Run

open Cert.KernelIdeal Cert.KernelIdeal.Gen

open Idealize.ShloMosaic
open Idealize.ShloMosaic.TcCoe

/-- A row of one head's scores, under the mask of the row's chunk. -/
theorem scoreT_row (b : ℕ) (q : FVec Ideal S256x64 .f32) (k : Vec Ideal S1x512x1x64 .f32) (i : Fin 256) (t : Fin 512) :
    scoreT (maskT (BitVec.ofNat 32 (256 * (b % 2)))) q k (ix2 i t)
      = score ((rowOf b i).val / 64) (fun e => q (ix2 i e)) (fun t e => k (ix4 0 t 0 e)) t := by
  rw [scoreT_apply, maskT_apply]
  unfold score
  split_ifs
  · exact if_pos rfl
  · exact if_neg (by decide)

/-- A row of one head's attention. -/
theorem headT_row (b : ℕ) (q : FVec Ideal S256x64 .f32) (k v : Vec Ideal S1x512x1x64 .f32) (i : Fin 256) (d : Fin 64) :
    headT (maskT (BitVec.ofNat 32 (256 * (b % 2)))) q k v (ix2 i d)
      = attend ((rowOf b i).val / 64) (fun e => q (ix2 i e)) (fun t e => k (ix4 0 t 0 e)) (fun t e => v (ix4 0 t 0 e)) d := by
  rw [headT_apply]
  unfold attend
  have hs : (fun t => scoreT (maskT (BitVec.ofNat 32 (256 * (b % 2)))) q k (ix2 i t))
      = score ((rowOf b i).val / 64) (fun e => q (ix2 i e)) (fun t e => k (ix4 0 t 0 e)) := funext fun t => scoreT_row b q k i t
  refine Finset.sum_congr rfl fun t _ => congrArg (· * _) ?_
  rw [normT_apply]
  simp only [expT_apply, hs]

/-- A sum over 512 columns is the sum over the eight heads of the sums over their 64. -/
theorem sum_heads (f : Fin 512 → EReal) : ∑ l : Fin 512, f l = ∑ h : Fin 8, ∑ d : Fin 64, f (headCol h d) :=
  (Fin.sum_univ_tiles 8 64 rfl f).trans (Finset.sum_congr rfl fun h _ => Finset.sum_congr rfl fun d _ =>
    congrArg f (Fin.ext (congrArg (· + d.val) (Nat.mul_comm h.val 64))))

/-- A chunk's partial product, by heads. -/
theorem chunkT_apply (b : ℕ) (wq : Vec Ideal S768x512 .f32) (wo : Vec Ideal S512x768 .f32) (x : Vec Ideal S1x256x768 .f32)
    (k v : Fin 8 → Vec Ideal S1x512x1x64 .f32) (i : Fin 256) (e : Fin 768) :
    chunkT wq wo (BitVec.ofNat 32 (256 * (b % 2))) x k v (ix2 i e)
      = ∑ h : Fin 8, ∑ d : Fin 64, attend ((rowOf b i).val / 64) (fun e' => ∑ u : Fin 768, x (ix3 0 i u) * wq (ix2 u (headCol h e')))
          (fun t e' => k h (ix4 0 t 0 e')) (fun t e' => v h (ix4 0 t 0 e')) d * wo (ix2 (headCol h d) e) := by
  have h : chunkT wq wo (BitVec.ofNat 32 (256 * (b % 2))) x k v (ix2 i e)
      = ∑ l : Fin 512, ctxT (fun h => headT (maskT (BitVec.ofNat 32 (256 * (b % 2)))) (qHead (queryT wq x) h) (k h) (v h)) (ix2 i l) * wo (ix2 l e) := by
    unfold chunkT
    pointwise
  rw [h, sum_heads]
  refine Finset.sum_congr rfl fun h _ => Finset.sum_congr rfl fun d _ => congrArg (· * _) ?_
  rw [ctxT_apply, headT_row]
  simp only [qHead_apply, queryT_apply]

/-- Device `c`'s share of the result's entry at row `r`, column `e` of the batch entry `n`: the attention of its eight heads
times its rows of the output weights. -/
def share (x : S2x512x768.Idx → EReal) (wq : S768x2048.Idx → EReal) (k v : S2x512x8x64.Idx → EReal) (wo : S2048x768.Idx → EReal)
    (c : Dev nD) (n : Fin 2) (r : Fin 512) (e : Fin 768) : EReal :=
  ∑ h : Fin 8, ∑ d : Fin 64, attend (r.val / 64) (fun e' => ∑ u : Fin 768, x (ix3 n r u) * wq (ix2 u (colOf c (headCol h e'))))
    (fun t e' => k (ix4 n t h e')) (fun t e' => v (ix4 n t h e')) d * wo (ix2 (colOf c (headCol h d)) e)

/-- Row `i` of the half `d` of a chunk. -/
def halfRow (d : Bool) (i : Fin 128) : Fin 256 := ⟨(if d then 128 else 0) + i.val, by have := i.isLt; split <;> omega⟩

/-- Half a chunk, read at a row of the half. -/
theorem halfT_apply (d : Bool) (u : FVec Ideal S256x768 .bf16) (i : Fin 128) (e : Fin 768) :
    halfT d u (ix3 0 i e) = u (ix2 (halfRow d i) e) := by
  cases d <;> (unfold halfT; simp only [Bool.false_eq_true, if_true, if_false]; pointwise)
  all_goals exact congrArg u (congrArg (ix2 · e) (Fin.ext (by simp [halfRow])))

/-- A device's partial product of half a chunk, from the arrays it reads. -/
theorem part_apply (I : Dev nD → Ins Ideal) (d : Bool) (c : Dev nD) (r : Fin 4) (i : Fin 128) (e : Fin 768) :
    part I d c r.val (ix3 0 i e)
      = share (cont (I c) 0) (cont (I c) 1) (cont (I c) 2) (cont (I c) 3) (cont (I c) 4) c (entry (chunk c r.val))
          (rowOf (chunk c r.val) (halfRow d i)) e := by
  rw [part_eq, halfT_apply, chunkW_eq I c r.val r.isLt, chunkT_apply]
  unfold share
  refine Finset.sum_congr rfl fun h _ => Finset.sum_congr rfl fun d' _ => ?_
  simp only [wq_apply, wo_apply, inputT_apply I c r.val r.isLt, keysT_apply, valuesT_apply]

end Cert.KernelIdeal.Run

end
-- ==== Proof.KernelIdeal.Final.lean ====
/-

The result array after the run: the twelve blocks the devices exchanged and stored, glued together.
-/
module

public import proofs.«01_k».proof.Proof.KernelIdeal.Reads
public import proofs.«01_k».proof.Proof.KernelIdeal.Run

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The result's window is the whole result. -/
theorem out_emb (j : ((cfg0.win 5).xblock (cfg0.grid.coords t0_0)).Idx) : ((cfg0.win 5).blk t0_0).view.emb j = j :=
  funext fun a => Fin.ext ((Rect.idx_unit_val _ _ _ _ a).trans (by rw [win_off 5 a, Nat.zero_add]))

/-- After the run device `c`'s result is what its body stored. -/
theorem final_out (c : Dev nD) : finalA m c 5 = outAt (PP m) c := by
  refine (dats m 0 c).arrAt_eq_of_cover 5 (outAt (PP m) c) (fun t _ => ?_) (fun i => ⟨t0_0, by decide +kernel, ?_⟩)
  · obtain rfl := fin_N0 t
    funext j
    refine Eq.trans (b := outAt (PP m) c j) ?_ ?_
    · rfl
    · exact congrArg (outAt (PP m) c) (out_emb j).symm
  · exact Finset.mem_map.mpr ⟨i, Finset.mem_univ _, out_emb i⟩

end Cert.KernelIdeal.Run

end
-- ==== Proof.KernelIdeal.Total.lean ====
/-

The blocks of the result as sums: whatever its place in the ring, a device stores of each half chunk the sum of the four
devices' partial products.
-/
module

public import proofs.«01_k».proof.Proof.KernelIdeal.Chunk
public import proofs.«01_k».proof.Proof.KernelIdeal.Final

@[expose] public section

noncomputable section

namespace Cert.KernelIdeal.Run

open Cert.KernelIdeal Cert.KernelIdeal.Gen

open Idealize.ShloMosaic
open Idealize.ShloMosaic.TcCoe

variable (P : Bool → Dev nD → ℕ → Vec Ideal S1x128x768 .bf16)

/-- The sum of two blocks. -/
theorem addB_apply (u v : Vec Ideal S1x128x768 .bf16) (i : Fin 128) (e : Fin 768) :
    addB u v (ix3 0 i e) = u (ix3 0 i e) + v (ix3 0 i e) := by
  unfold addB k0_pay68
  pointwise

/-- A block widened for the store keeps its entries. -/
theorem pay105_apply (u : Vec Ideal S1x128x768 .bf16) (i : Fin 128) (e : Fin 768) :
    k0_pay105 u (ix3 0 i e) = u (ix3 0 i e) := by
  unfold k0_pay105
  pointwise

/-- So does the sum of two blocks. -/
theorem pay102_apply (u v : Vec Ideal S1x128x768 .bf16) (i : Fin 128) (e : Fin 768) :
    k0_pay102 (k0_pay98 (k0_pay97 u) v) (ix3 0 i e) = u (ix3 0 i e) + v (ix3 0 i e) := by
  unfold k0_pay102 k0_pay98 k0_pay97
  pointwise

/-- The block `outV` stores, read at one place: the block that arrived, or the sum of it and the device's own. -/
def stored (i : Fin 128) (e : Fin 768) (c : Dev nD) : Fin 4 × Fin 2 → EReal
  | (0, 0) => lnd P (false, 3) c (ix3 0 i e)
  | (0, 1) => lnd P (true, 3) c (ix3 0 i e)
  | (1, 0) => P false c 1 (ix3 0 i e) + lnd P (false, 2) c (ix3 0 i e)
  | (1, 1) => lnd P (true, 4) c (ix3 0 i e)
  | (2, 0) => lnd P (false, 5) c (ix3 0 i e)
  | (2, 1) => lnd P (true, 5) c (ix3 0 i e)
  | (3, 0) => lnd P (false, 4) c (ix3 0 i e)
  | (3, 1) => P true c 3 (ix3 0 i e) + lnd P (true, 2) c (ix3 0 i e)

/-- What is stored of each half chunk, entry by entry. -/
theorem outV_apply (c : Dev nD) (i : Fin 128) (e : Fin 768) (j : Fin 4 × Fin 2) : outV P c j (ix3 0 i e) = stored P i e c j := by
  match j with
  | (0, 0) => exact pay105_apply _ i e
  | (0, 1) => exact pay105_apply _ i e
  | (1, 0) => exact pay102_apply _ _ i e
  | (1, 1) => exact pay105_apply _ i e
  | (2, 0) => exact pay105_apply _ i e
  | (2, 1) => exact pay105_apply _ i e
  | (3, 0) => exact pay105_apply _ i e
  | (3, 1) => exact pay102_apply _ _ i e

/-- What arrives after four steps, as the sum of the four devices' blocks it was made of. -/
theorem snt3_apply (d : Bool) (c : Dev nD) (i : Fin 128) (e : Fin 768) :
    snt P d 3 c (ix3 0 i e) = P d c (if d then 3 else 1) (ix3 0 i e) + (P d (from' d c) 2 (ix3 0 i e)
      + (P d (from' d (from' d c)) (if d then 1 else 3) (ix3 0 i e) + P d (from' d (from' d (from' d c))) 0 (ix3 0 i e))) := by
  show addB _ (addB _ (addB _ _)) _ = _
  rw [addB_apply, addB_apply, addB_apply]
  rfl

/-- A sum over the devices, in the order of the ring. -/
theorem sum_ring (d : Bool) (c : Dev nD) (g : Dev nD → EReal) :
    ∑ c' : Dev nD, g c' = g c + (g (from' d c) + (g (from' d (from' d c)) + g (from' d (from' d (from' d c))))) := by
  rw [show (Finset.univ : Finset (Dev nD)) = {c, from' d c, from' d (from' d c), from' d (from' d (from' d c))} from by
      revert d c; decide,
    Finset.sum_insert (by revert d c; decide), Finset.sum_insert (by revert d c; decide), Finset.sum_insert (by revert d c; decide),
    Finset.sum_singleton]

/-- The sum of the four devices' blocks of chunk `b`, half `d`. -/
def total (d : Bool) (b : Fin 4) (i : Fin 128) (e : Fin 768) : EReal :=
  ∑ c : Dev nD, P d c (dist c b).val (ix3 0 i e)

/-- The block that has been round the ring is the sum of the devices' blocks of one chunk. -/
theorem snt_total (d : Bool) (c : Dev nD) (i : Fin 128) (e : Fin 768) :
    snt P d 3 c (ix3 0 i e) = total P d (rel c (if d then 3 else 1)) i e := by
  rw [snt3_apply]
  unfold total
  rw [sum_ring d c,
    show (dist c (rel c (if d then 3 else 1))).val = (if d then 3 else 1) from by revert d c; decide,
    show (dist (from' d c) (rel c (if d then 3 else 1))).val = 2 from by revert d c; decide,
    show (dist (from' d (from' d c)) (rel c (if d then 3 else 1))).val = (if d then 1 else 3) from by revert d c; decide,
    show (dist (from' d (from' d (from' d c))) (rel c (if d then 3 else 1))).val = 0 from by revert d c; decide]

/-- What a device stores of the chunk `r` places after its own is that sum. -/
theorem stored_total (c : Dev nD) (i : Fin 128) (e : Fin 768) (r : Fin 4) (s : Fin 2) :
    stored P i e c (r, s) = total P (s == 1) (rel c r.val) i e := by
  match r, s with
  | 0, 0 =>
    exact (snt_total P false (from' false c) i e).trans (congrArg (total P false · i e) (by revert c; decide))
  | 0, 1 => exact (snt_total P true (from' true c) i e).trans (congrArg (total P true · i e) (by revert c; decide))
  | 1, 0 => exact (addB_apply _ _ i e).symm.trans (snt_total P false c i e)
  | 1, 1 => exact (snt_total P true (from' true (from' true c)) i e).trans (congrArg (total P true · i e) (by revert c; decide))
  | 2, 0 =>
    exact (snt_total P false (from' false (from' false (from' false c))) i e).trans (congrArg (total P false · i e) (by revert c; decide))
  | 2, 1 =>
    exact (snt_total P true (from' true (from' true (from' true c))) i e).trans (congrArg (total P true · i e) (by revert c; decide))
  | 3, 0 => exact (snt_total P false (from' false (from' false c)) i e).trans (congrArg (total P false · i e) (by revert c; decide))
  | 3, 1 => exact (addB_apply _ _ i e).symm.trans (snt_total P true c i e)

/-- Row `r` of batch entry `n` lies in the chunk `2 * n + r / 256`, -/
def chunkOf (n : Fin 2) (r : Fin 512) : Fin 4 := ⟨2 * n.val + r.val / 256, by have := n.isLt; have := r.isLt; omega⟩
/-- in its half `r / 128 % 2`, -/
def halfOf (r : Fin 512) : Fin 2 := ⟨r.val / 128 % 2, Nat.mod_lt _ (by decide)⟩
/-- at the row `r % 128` of the half. -/
def rowIn (r : Fin 512) : Fin 128 := ⟨r.val % 128, Nat.mod_lt _ (by decide)⟩

/-- A place of the result lies in its half chunk at its row of the half. -/
theorem rO_emb (n : Fin 2) (r : Fin 512) (e : Fin 768) :
    (rO (chunkOf n r, halfOf r)).emb (ix3 0 (rowIn r) e) = ix3 n r e := by
  have hn := n.isLt
  have hr := r.isLt
  funext a
  refine Fin.ext ((Rect.idx_unit_val _ _ _ _ a).trans ?_)
  match a with
  | ⟨0, _⟩ => show (2 * n.val + r.val / 256) / 2 + 0 = n.val; omega
  | ⟨1, _⟩ => show 256 * ((2 * n.val + r.val / 256) % 2) + 128 * (r.val / 128 % 2) + r.val % 128 = r.val; omega
  | ⟨2, _⟩ => exact Nat.zero_add _

/-- The result at one place: the sum of the devices' blocks there, the same on every device. -/
theorem outAt_apply (c : Dev nD) (n : Fin 2) (r : Fin 512) (e : Fin 768) :
    outAt P c (ix3 n r e) = total P (halfOf r == 1) (chunkOf n r) (rowIn r) e := by
  rw [← rO_emb n r e]
  refine (Rect.glue_emb rO rO_cover rO_disjoint _ _ _).trans ?_
  show outV P c (dist c (chunkOf n r), halfOf r) (ix3 0 (rowIn r) e) = _
  rw [outV_apply, stored_total, show rel c (dist c (chunkOf n r)).val = chunkOf n r from (relE c).right_inv _]

end Cert.KernelIdeal.Run

end
-- ==== Proof.Reference.lean ====
/-

The reference's result, taken apart and read element by element over the extended reals.
-/
module

public import proofs.«01_k».proof.Proof.Gen.ReferenceIdeal.Run
public import proofs.«01_k».proof.Proof.KernelIdeal.Chunk
public import Idealize.ShloMosaic.Lib.Pointwise

@[expose] public section

noncomputable section

namespace Cert.ReferenceIdeal.Run

open Cert.ReferenceIdeal Cert.ReferenceIdeal.Gen

open Idealize.ShloMosaic
open Idealize.ShloMosaic.TcCoe
open Cert.KernelIdeal.Run (score expo attend)

/-- The block of 64 a position lies in. -/
def blockR : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- The mask: a row admits the columns of its block and those before it. -/
def maskR : IVec S512x512 1 :=
  cmpi .sle (broadcastInDim S512x512 ![0, 1] bcast_S1x512_S512x512_0_1 (broadcastInDim S1x512 ![1] bcast_S512_S1x512_1 blockR))
    (broadcastInDim S512x512 ![0, 1] bcast_S512x1_S512x512_0_1 (broadcastInDim S512x1 ![0] bcast_S512_S512x1_0 blockR))

/-- Whether a row admits any column. -/
def keepR : IVec S512 1 := Host.reduce IntOp.ori maskR (constantI S_ 1 0#1) reducesTo_S512x512_S512_d1 h_S_

variable {F : FTy → Type} [FloatOps F]

/-- The queries, by heads. -/
def queriesR (x : FVec F S2x512x768 .f32) (wq : FVec F S768x2048 .f32) : FVec F S2x512x32x64 .f32 :=
  shapeCast _ (Host.dotGeneral dot_S2x512x768_S768x2048_S2x512x2048_2_0_01_1_n_n none x wq) shapeCasts_S2x512x2048_S2x512x32x64

/-- The masked scores. -/
def scoresR (q k : FVec F S2x512x32x64 .f32) : FVec F S2x32x512x512 .f32 :=
  select (broadcastInDim S2x32x512x512 ![0, 1, 2, 3] bcast_S1x1x512x512_S2x32x512x512_0_1_2_3 (broadcastInDim S1x1x512x512 ![2, 3] bcast_S512x512_S1x1x512x512_2_3 maskR))
    (mulf (Host.dotGeneral dot_S2x512x32x64_S2x512x32x64_S2x32x512x512_3_3_1_1_02_02 none q k)
      (broadcastInDim S2x32x512x512 ![] bcast_S_S2x32x512x512 (constant S_ .f32 0x3E000000#32)))
    (broadcastInDim S2x32x512x512 ![] bcast_S_S2x32x512x512 (id (constant S_ .f32 0xCE6E6B28#32)))

/-- The exponentials of the scores, the largest of the row subtracted first. -/
def expR (s : FVec F S2x32x512x512 .f32) : FVec F S2x32x512x512 .f32 :=
  Host.exp (subf s (broadcastInDim S2x32x512x512 ![0, 1, 2, 3] bcast_S2x32x512x1_S2x32x512x512_0_1_2_3
    (broadcastInDim S2x32x512x1 ![0, 1, 2] bcast_S2x32x512_S2x32x512x1_0_1_2
      (Host.reduce FloatOps.maximumf s (constant S_ .f32 0xFF800000#32) reducesTo_S2x32x512x512_S2x32x512_d3 h_S_))))

/-- The row sums, one where the row admits no column. -/
def sumsR (p : FVec F S2x32x512x512 .f32) : FVec F S2x32x512x1 .f32 :=
  select (broadcastInDim S2x32x512x1 ![0, 1, 2, 3] bcast_S1x1x512x1_S2x32x512x1_0_1_2_3 (broadcastInDim S1x1x512x1 ![2] bcast_S512_S1x1x512x1_2 keepR))
    (broadcastInDim S2x32x512x1 ![0, 1, 2] bcast_S2x32x512_S2x32x512x1_0_1_2
      (Host.reduceAdd p (constant S_ .f32 0x00000000#32) reducesTo_S2x32x512x512_S2x32x512_d3 h_S_))
    (broadcastInDim S2x32x512x1 ![] bcast_S_S2x32x512x1 (id (constant S_ .f32 0x3F800000#32)))

/-- The weights: the exponentials divided by their row's sum, zero where the row admits no column. -/
def weightsR (p : FVec F S2x32x512x512 .f32) : FVec F S2x32x512x512 .f32 :=
  select (broadcastInDim S2x32x512x512 ![0, 1, 2, 3] bcast_S1x1x512x1_S2x32x512x512_0_1_2_3 (broadcastInDim S1x1x512x1 ![2] bcast_S512_S1x1x512x1_2 keepR))
    (Host.divf p (broadcastInDim S2x32x512x512 ![0, 1, 2, 3] bcast_S2x32x512x1_S2x32x512x512_0_1_2_3 (sumsR p)))
    (broadcastInDim S2x32x512x512 ![] bcast_S_S2x32x512x512 (id (constant S_ .f32 0x00000000#32)))

/-- The weighted values, the heads side by side. -/
def ctxR (v : FVec F S2x512x32x64 .f32) (w : FVec F S2x32x512x512 .f32) : FVec F S2x512x2048 .f32 :=
  shapeCast _ (transpose S2x512x32x64 [0, 3, 1, 2] (Host.dotGeneral dot_S2x512x32x64_S2x32x512x512_S2x32x64x512_1_3_3_2_02_01 none v w)
    transposes_S2x32x64x512_S2x512x32x64_0_3_1_2) shapeCasts_S2x512x32x64_S2x512x2048

/-- The reference's function of its five arguments. -/
def resultR (x : FVec F S2x512x768 .f32) (wq : FVec F S768x2048 .f32) (k v : FVec F S2x512x32x64 .f32) (wo : FVec F S2048x768 .f32) :
    FVec F S2x512x768 .f32 :=
  Host.dotGeneral dot_S2x512x2048_S2048x768_S2x512x768_2_0_01_1_n_n none (ctxR v (weightsR (expR (scoresR (queriesR x wq) k)))) wo

set_option maxRecDepth 8192 in
/-- The result of the reference is that function of its arguments. -/
theorem res_eq (m : (ℓ : Loc nD τ sig) → Buf (Elt F) ℓ) (c : Dev nD) :
    Value.res_main_v33 m c = resultR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v33 resultR
  rfl

/-! ## Element by element -/

/-- Column `d` of head `h` among the columns of all the heads. -/
def headColR (h : Fin 32) (d : Fin 64) : Fin 2048 := ⟨h.val * 64 + d.val, by omega⟩

/-- A query: the product of the input's row with a column of the query weights. -/
theorem queriesR_apply (x : FVec Ideal S2x512x768 .f32) (wq : FVec Ideal S768x2048 .f32) (n : Fin 2) (r : Fin 512) (h : Fin 32) (e : Fin 64) :
    queriesR x wq (ix4 n r h e) = ∑ u : Fin 768, x (ix3 n r u) * wq (ix2 u (headColR h e)) := by
  unfold queriesR headColR
  pointwise

/-- A score: the scaled product of a query and a key where the mask admits the key, the mask's constant elsewhere. -/
theorem scoresR_apply (q k : FVec Ideal S2x512x32x64 .f32) (n : Fin 2) (h : Fin 32) (r t : Fin 512) :
    scoresR q k (ix4 n h r t) = Scalar.select (maskR (ix2 r t)) ((∑ e : Fin 64, q (ix4 n r h e) * k (ix4 n t h e)) * Ideal.ofBits .f32 0x3E000000#32) (Ideal.ofBits .f32 0xCE6E6B28#32) := by
  unfold scoresR
  simp only [id_eq]
  pointwise

/-- The exponential of a score. -/
theorem expR_apply (s : FVec Ideal S2x32x512x512 .f32) (n : Fin 2) (h : Fin 32) (r t : Fin 512) :
    expR s (ix4 n h r t) = expo (fun t => s (ix4 n h r t)) t := by
  unfold expR expo
  pointwise

/-- A row's sum. -/
theorem sumsR_apply (p : FVec Ideal S2x32x512x512 .f32) (n : Fin 2) (h : Fin 32) (r : Fin 512) :
    sumsR p (ix4 n h r 0) = Scalar.select (keepR (ix1 r)) (∑ t : Fin 512, p (ix4 n h r t)) (Ideal.ofBits .f32 0x3F800000#32) := by
  unfold sumsR
  simp only [id_eq]
  pointwise

/-- A weight. -/
theorem weightsR_apply (p : FVec Ideal S2x32x512x512 .f32) (n : Fin 2) (h : Fin 32) (r t : Fin 512) :
    weightsR p (ix4 n h r t) = Scalar.select (keepR (ix1 r)) (Ideal.div (p (ix4 n h r t)) (sumsR p (ix4 n h r 0))) (Ideal.ofBits .f32 0x00000000#32) := by
  unfold weightsR
  simp only [id_eq]
  pointwise

/-- The values' average by a row's weights. -/
theorem ctxR_apply (v : FVec Ideal S2x512x32x64 .f32) (w : FVec Ideal S2x32x512x512 .f32) (n : Fin 2) (r : Fin 512) (h : Fin 32) (d : Fin 64) :
    ctxR v w (ix3 n r (headColR h d)) = ∑ t : Fin 512, v (ix4 n t h d) * w (ix4 n h r t) := by
  unfold ctxR headColR
  pointwise

/-- The result: the product with the output weights. -/
theorem resultR_apply (x : FVec Ideal S2x512x768 .f32) (wq : FVec Ideal S768x2048 .f32) (k v : FVec Ideal S2x512x32x64 .f32) (wo : FVec Ideal S2048x768 .f32)
    (n : Fin 2) (r : Fin 512) (e : Fin 768) :
    resultR x wq k v wo (ix3 n r e)
      = ∑ l : Fin 2048, ctxR v (weightsR (expR (scoresR (queriesR x wq) k))) (ix3 n r l) * wo (ix2 l e) := by
  unfold resultR
  pointwise

/-- The rounded-down division by 64 is the natural numbers'. -/
theorem blockR_apply (r : Fin 512) : blockR (ix1 r) = BitVec.ofNat 32 (r.val / 64) := by
  unfold blockR
  simp only [id_eq]
  pointwise
  revert r
  decide +kernel

/-- The mask admits the columns of the row's block and those before it. -/
theorem maskR_apply (r t : Fin 512) : maskR (ix2 r t) = if t.val / 64 ≤ r.val / 64 then 1#1 else 0#1 := by
  have h : maskR (ix2 r t) = IntOp.cmpi .sle (blockR (ix1 t)) (blockR (ix1 r)) := by
    unfold maskR
    pointwise
  rw [h, blockR_apply, blockR_apply]
  exact Cert.KernelIdeal.Run.block_le ⟨t.val / 64, by omega⟩ ⟨r.val / 64, by omega⟩

/-- Every row admits a column: the first. -/
theorem keepR_apply (r : Fin 512) : keepR (ix1 r) = 1#1 := by
  have h : keepR (ix1 r) = (Finset.univ : Finset (Fin 512)).fold IntOp.ori (0#1) (fun t => maskR (ix2 r t)) := by
    unfold keepR
    pointwise
  have h0 : maskR (ix2 r 0) = 1#1 := by rw [maskR_apply]; exact if_pos (by simp)
  rw [h, ← Finset.insert_erase (Finset.mem_univ (0 : Fin 512)), Finset.fold_insert (Finset.notMem_erase _ _), h0]
  exact (by decide : ∀ b : BitVec 1, IntOp.ori 1#1 b = 1#1) _

/-- A row of the weights. -/
theorem weightsR_row (q k : FVec Ideal S2x512x32x64 .f32) (n : Fin 2) (h : Fin 32) (r t : Fin 512) :
    weightsR (expR (scoresR q k)) (ix4 n h r t)
      = Ideal.div (expo (score (r.val / 64) (fun e => q (ix4 n r h e)) (fun t e => k (ix4 n t h e))) t)
          (∑ t' : Fin 512, expo (score (r.val / 64) (fun e => q (ix4 n r h e)) (fun t e => k (ix4 n t h e))) t') := by
  have hs : (fun t => scoresR q k (ix4 n h r t)) = score (r.val / 64) (fun e => q (ix4 n r h e)) (fun t e => k (ix4 n t h e)) := by
    funext t
    rw [scoresR_apply, maskR_apply]
    unfold score
    split_ifs
    · exact if_pos rfl
    · exact if_neg (by decide)
  rw [weightsR_apply, sumsR_apply, keepR_apply]
  refine (if_pos rfl).trans ?_
  refine congr (congrArg Ideal.div ?_) ((if_pos rfl).trans ?_)
  · rw [expR_apply, hs]
  · simp only [expR_apply, hs]

/-- One entry of the attention's result. -/
theorem ctxR_row (q k v : FVec Ideal S2x512x32x64 .f32) (n : Fin 2) (r : Fin 512) (h : Fin 32) (d : Fin 64) :
    ctxR v (weightsR (expR (scoresR q k))) (ix3 n r (headColR h d))
      = attend (r.val / 64) (fun e => q (ix4 n r h e)) (fun t e => k (ix4 n t h e)) (fun t e => v (ix4 n t h e)) d := by
  rw [ctxR_apply]
  unfold attend
  refine Finset.sum_congr rfl fun t _ => ?_
  rw [weightsR_row]
  exact mul_comm _ _

open Cert.KernelIdeal.Run (share colOf headCol sum_heads)

/-- Head `h` of device `c`'s eight. -/
def headOf (c : Fin 4) (h : Fin 8) : Fin 32 := ⟨8 * c.val + h.val, by omega⟩

/-- The columns of a device's heads are the device's columns. -/
theorem headColR_headOf (c : Fin 4) (h : Fin 8) (d : Fin 64) : headColR (headOf c h) d = colOf c (headCol h d) :=
  Fin.ext (by show (8 * c.val + h.val) * 64 + d.val = 512 * c.val + (64 * h.val + d.val); omega)

/-- The reference's result is the sum of the devices' shares, each device holding its eight heads of the keys and values. -/
theorem resultR_share (x : FVec Ideal S2x512x768 .f32) (wq : FVec Ideal S768x2048 .f32) (k v : FVec Ideal S2x512x32x64 .f32) (wo : FVec Ideal S2048x768 .f32)
    (k' v' : Fin 4 → Cert.KernelIdeal.S2x512x8x64.Idx → EReal)
    (hk : ∀ c n t h e, k' c (ix4 n t h e) = k (ix4 n t (headOf c h) e)) (hv : ∀ c n t h e, v' c (ix4 n t h e) = v (ix4 n t (headOf c h) e))
    (n : Fin 2) (r : Fin 512) (e : Fin 768) :
    resultR x wq k v wo (ix3 n r e) = ∑ c : Fin 4, share x wq (k' c) (v' c) wo c n r e := by
  rw [resultR_apply]
  refine (Fin.sum_univ_tiles 4 512 rfl _).trans (Finset.sum_congr rfl fun c _ => (sum_heads _).trans ?_)
  unfold share
  refine Finset.sum_congr rfl fun h _ => Finset.sum_congr rfl fun d _ => ?_
  have hl : (⟨c.val * 512 + (headCol h d).val, by omega⟩ : Fin 2048) = headColR (headOf c h) d := by
    rw [headColR_headOf]
    exact Fin.ext (congrArg (· + (headCol h d).val) (Nat.mul_comm c.val 512))
  refine (congrArg (fun l => ctxR v (weightsR (expR (scoresR (queriesR x wq) k))) (ix3 n r l) * wo (ix2 l e)) hl).trans ?_
  show _ * _ = _ * _
  rw [ctxR_row]
  simp only [queriesR_apply, headColR_headOf, hk, hv]

end Cert.ReferenceIdeal.Run

end
-- ==== Proof.Value.lean ====
/-

The two results compared: on every device the program's result is the reference's, when every device holds the reference's
input and weights and its own eight heads of the keys and values.
-/
module

public import proofs.«01_k».proof.Proof.KernelIdeal.Total
public import proofs.«01_k».proof.Proof.Reference
public import Idealize.ShloMosaic.Lib.LayoutAt

@[expose] public section

noncomputable section

namespace Cert.KernelIdeal.Run

open Cert.KernelIdeal Cert.KernelIdeal.Gen

open Idealize.ShloMosaic
open Idealize.ShloMosaic.TcCoe

variable (m : (ℓ : Loc nD τ sig) → Buf (Elt Ideal) ℓ)

/-- The result at one place is the sum of the devices' shares there. -/
theorem final_share (c : Dev nD) (n : Fin 2) (r : Fin 512) (e : Fin 768) :
    outAt (PP m) c (ix3 n r e)
      = ∑ c' : Dev nD, share (m ((c'.tc : Thread nD τ).loc main_arg0)) (m ((c'.tc : Thread nD τ).loc main_arg1))
          (m ((c'.tc : Thread nD τ).loc main_arg2)) (m ((c'.tc : Thread nD τ).loc main_arg3)) (m ((c'.tc : Thread nD τ).loc main_arg4)) c' n r e := by
  rw [outAt_apply]
  unfold total
  refine Finset.sum_congr rfl fun c' _ => ?_
  have hc : chunk c' (dist c' (chunkOf n r)).val = (chunkOf n r).val := congrArg Fin.val ((relE c').right_inv (chunkOf n r))
  refine (part_apply (inp m) (halfOf r == 1) c' (dist c' (chunkOf n r)) (rowIn r) e).trans ?_
  rw [hc, cont0, cont1, cont2, cont3, cont4]
  have hn := n.isLt
  have hr := r.isLt
  have h0 : entry (chunkOf n r).val = n := Fin.ext (by show (2 * n.val + r.val / 256) / 2 % 2 = n.val; omega)
  have h1 : rowOf (chunkOf n r).val (halfRow (halfOf r == 1) (rowIn r)) = r := by
    refine Fin.ext ?_
    show 256 * ((2 * n.val + r.val / 256) % 2) + ((if (halfOf r == 1) = true then 128 else 0) + r.val % 128) = r.val
    have hh : (if (halfOf r == 1) = true then 128 else 0) = 128 * (r.val / 128 % 2) := by
      by_cases h : r.val / 128 % 2 = 1
      · rw [if_pos (beq_iff_eq.mpr (Fin.ext h)), h]
      · rw [if_neg (fun h' => h (congrArg Fin.val (beq_iff_eq.mp h')))]
        omega
    rw [hh]
    omega
  rw [h0, h1]

/-- Device `c`'s block of an array of 32 heads is its eight heads. -/
theorem block_heads (X : (⟨4, ![2, 512, 32, 64]⟩ : Shape).Idx → EReal) (c : Fin 4) (n : Fin 2) (t : Fin 512) (h : Fin 8) (e : Fin 64) :
    Layout.block ⟨4, ![2, 512, 8, 64]⟩ ⟨4, ![2, 512, 32, 64]⟩ 2 4 c X (by decide) (ix4 n t h e) = X (ix4 n t (Cert.ReferenceIdeal.Run.headOf c h) e) := by
  rw [Layout.block_apply]
  refine congrArg X (funext fun a => Fin.ext ((Layout.Tiles.idx_val _ _ _ _).trans ?_))
  match a with
  | ⟨0, _⟩ => rfl
  | ⟨1, _⟩ => rfl
  | ⟨2, _⟩ => exact congrArg (· + h.val) (Nat.mul_comm c.val 8)
  | ⟨3, _⟩ => rfl

/-- Every device's result is the reference's. -/
theorem final_ref (c : Dev nD) (x : FVec Ideal S2x512x768 .f32) (wq : FVec Ideal S768x2048 .f32)
    (k v : FVec Ideal Cert.ReferenceIdeal.S2x512x32x64 .f32) (wo : FVec Ideal S2048x768 .f32)
    (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![2, 512, 8, 64]⟩ ⟨4, ![2, 512, 32, 64]⟩ 2 4 c k)
    (h3 : ∀ c : Dev nD, m ((c.tc : Thread nD τ).loc main_arg3) = Layout.block ⟨4, ![2, 512, 8, 64]⟩ ⟨4, ![2, 512, 32, 64]⟩ 2 4 c v)
    (h4 : ∀ c : Dev nD, m ((c.tc : Thread nD τ).loc main_arg4) = wo) :
    outAt (PP m) c = Cert.ReferenceIdeal.Run.resultR x wq k v wo := by
  funext i
  rw [← ix3_eta i]
  refine (final_share m c _ _ _).trans ?_
  refine (Finset.sum_congr rfl fun c' _ => ?_).trans (Cert.ReferenceIdeal.Run.resultR_share x wq k v wo
    (fun c => Layout.block ⟨4, ![2, 512, 8, 64]⟩ ⟨4, ![2, 512, 32, 64]⟩ 2 4 c k) (fun c => Layout.block ⟨4, ![2, 512, 8, 64]⟩ ⟨4, ![2, 512, 32, 64]⟩ 2 4 c v)
    (block_heads k) (block_heads v) _ _ _).symm
  rw [h0, h1, h2, h3, h4]

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

/-- The program runs to the end with its arguments as they were and its counters at zero. -/
theorem frame_kernel : Cert.quiescent_Kernel := by
  intro m g _
  exact (θ_run Cert.Kernel.defs _ _).mono (fun _ h => ⟨fun c => (h.1 c).2, h.2⟩) (Cert.Kernel.Run.run_args (F := Bits) m g)

/-- So does its ideal reading. -/
theorem frame_kernelIdeal : Cert.quiescent_KernelIdeal := by
  intro m g _
  exact (θ_run Cert.KernelIdeal.defs _ _).mono (fun _ h => ⟨fun c => (h.1 c).2, h.2⟩) (Cert.KernelIdeal.Run.run_args (F := Ideal) m g)

/-- So does the reference, which has no counters. -/
theorem frame_referenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- On every device the program's ideal reading computes the reference's result. -/
theorem algebraic : Cert.algebraic_KernelIdeal_ReferenceIdeal := by
  intro m g m' g' _ hm
  refine ⟨Cert.ReferenceIdeal.Value.res_main_v33 m' 0, ?_, ?_⟩
  · refine (θ_run Cert.KernelIdeal.defs _ _).mono (fun _ h c => ⟨(h.1 c).1.trans ?_, (h.1 c).2⟩) (Cert.KernelIdeal.Run.run_args (F := Ideal) m g)
    refine (Cert.KernelIdeal.Run.final_out m c).trans ?_
    refine Eq.trans ?_ (Cert.ReferenceIdeal.Run.res_eq m' 0).symm
    exact Cert.KernelIdeal.Run.final_ref m c _ _ _ _ _ (fun c => (hm c).1) (fun c => (hm c).2.1) (fun c => (hm c).2.2.1)
      (fun c => (hm c).2.2.2.1) (fun c => (hm c).2.2.2.2)
  · exact (θ_run Cert.ReferenceIdeal.defs _ _).mono (fun _ h => h 0) (Cert.ReferenceIdeal.Value.run (F := Ideal) m' g')

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
